-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_lower_ones [hPre_lower_ones : Cert.Pre_lower_ones.Facts] (m : (ℓ : Loc Cert.GatesIdeal.nD Cert.GatesIdeal.τ Cert.GatesIdeal.sig) → Buf (Elt Ideal) ℓ) : Prop :=
  ∀ c : Dev Cert.GatesIdeal.nD,
    (Cert.Pre_lower_ones.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_lower_ones [hPre_lower_ones : Cert.Pre_lower_ones.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_lower_ones.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesIdeal_pre_lower_ones [hGatesIdeal : Cert.GatesIdeal.Facts] [hPre_lower_ones : Cert.Pre_lower_ones.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_lower_ones m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_GatesRefIdeal_pre_lower_ones [hGatesRefIdeal : Cert.GatesRefIdeal.Facts] [hPre_lower_ones : Cert.Pre_lower_ones.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_lower_ones m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v67) = v0 c
          ∧ r.2.mem ((c.tc : Thread Cert.MergeRefIdeal.nD Cert.MergeRefIdeal.τ).loc Cert.MergeRefIdeal.main_v70) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v17) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v5) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)) →
    ∃ (v0 : (c : Dev Cert.InFIdeal.nD) → Buf (Elt Ideal) ((c.tc : Thread Cert.InFIdeal.nD Cert.InFIdeal.τ).loc Cert.InFIdeal.main_v0)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v0) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v4) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v26) = v0 c
          ∧ r.2.mem ((c.tc : Thread Cert.NormRefIdeal.nD Cert.NormRefIdeal.τ).loc Cert.NormRefIdeal.main_v25) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v23) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_Fox_FoxIdeal : Prop :=
  IdealRules.named_const.Statement Cert.FoxIdeal.κ "log2e" .f32 0x3FB8AA3B#32 (((Real.log 2)⁻¹ : ℝ) : EReal)
  ∧ IdealRules.named_const.Statement Cert.FoxIdeal.κ "scale_log2e" .f32 0x3E0293EE#32 (((11863283 / 134217728) * (Real.log 2)⁻¹ : ℝ) : EReal)

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v39) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Gates_GatesIdeal : Prop :=
  True

def algebraic_GatesIdeal_GatesRefIdeal_pre_lower_ones [hGatesIdeal : Cert.GatesIdeal.Facts] [hGatesRefIdeal : Cert.GatesRefIdeal.Facts] [hPre_lower_ones : Cert.Pre_lower_ones.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_lower_ones m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v16) = v0 c
          ∧ r.2.mem ((c.tc : Thread Cert.GatesRefIdeal.nD Cert.GatesRefIdeal.τ).loc Cert.GatesRefIdeal.main_v18) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def Claim : Prop :=
  ∃ (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInB : Cert.InB.Facts) (hInBIdeal : Cert.InBIdeal.Facts) (hInBRefIdeal : Cert.InBRefIdeal.Facts) (hInF : Cert.InF.Facts) (hInFIdeal : Cert.InFIdeal.Facts) (hInFRefIdeal : Cert.InFRefIdeal.Facts) (hNorm : Cert.Norm.Facts) (hNormIdeal : Cert.NormIdeal.Facts) (hNormRefIdeal : Cert.NormRefIdeal.Facts) (hLast : Cert.Last.Facts) (hLastIdeal : Cert.LastIdeal.Facts) (hLastRefIdeal : Cert.LastRefIdeal.Facts) (hFox : Cert.Fox.Facts) (hFoxIdeal : Cert.FoxIdeal.Facts) (hFoxRefIdeal : Cert.FoxRefIdeal.Facts) (hGates : Cert.Gates.Facts) (hGatesIdeal : Cert.GatesIdeal.Facts) (hGatesRefIdeal : Cert.GatesRefIdeal.Facts) (hPre_fox_finite : Cert.Pre_fox_finite.Facts) (hPre_lower_ones : Cert.Pre_lower_ones.Facts),
    quiescent_Merge (hMerge := hMerge)
    ∧ quiescent_MergeIdeal (hMergeIdeal := hMergeIdeal)
    ∧ quiescent_MergeRefIdeal (hMergeRefIdeal := hMergeRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_InB (hInB := hInB)
    ∧ quiescent_InBIdeal (hInBIdeal := hInBIdeal)
    ∧ quiescent_InBRefIdeal (hInBRefIdeal := hInBRefIdeal)
    ∧ quiescent_InF (hInF := hInF)
    ∧ quiescent_InFIdeal (hInFIdeal := hInFIdeal)
    ∧ quiescent_InFRefIdeal (hInFRefIdeal := hInFRefIdeal)
    ∧ quiescent_Norm (hNorm := hNorm)
    ∧ quiescent_NormIdeal (hNormIdeal := hNormIdeal)
    ∧ quiescent_NormRefIdeal (hNormRefIdeal := hNormRefIdeal)
    ∧ quiescent_Last (hLast := hLast)
    ∧ quiescent_LastIdeal (hLastIdeal := hLastIdeal)
    ∧ quiescent_LastRefIdeal (hLastRefIdeal := hLastRefIdeal)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Gates (hGates := hGates)
    ∧ quiescent_GatesIdeal (hGatesIdeal := hGatesIdeal)
    ∧ quiescent_GatesIdeal_pre_lower_ones (hGatesIdeal := hGatesIdeal) (hPre_lower_ones := hPre_lower_ones)
    ∧ quiescent_GatesRefIdeal (hGatesRefIdeal := hGatesRefIdeal)
    ∧ quiescent_GatesRefIdeal_pre_lower_ones (hGatesRefIdeal := hGatesRefIdeal) (hPre_lower_ones := hPre_lower_ones)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_InB_InBIdeal
    ∧ algebraic_InBIdeal_InBRefIdeal (hInBIdeal := hInBIdeal) (hInBRefIdeal := hInBRefIdeal)
    ∧ preserves_InF_InFIdeal
    ∧ algebraic_InFIdeal_InFRefIdeal (hInFIdeal := hInFIdeal) (hInFRefIdeal := hInFRefIdeal)
    ∧ preserves_Norm_NormIdeal
    ∧ algebraic_NormIdeal_NormRefIdeal (hNormIdeal := hNormIdeal) (hNormRefIdeal := hNormRefIdeal)
    ∧ preserves_Last_LastIdeal
    ∧ algebraic_LastIdeal_LastRefIdeal (hLastIdeal := hLastIdeal) (hLastRefIdeal := hLastRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Gates_GatesIdeal
    ∧ algebraic_GatesIdeal_GatesRefIdeal_pre_lower_ones (hGatesIdeal := hGatesIdeal) (hGatesRefIdeal := hGatesRefIdeal) (hPre_lower_ones := hPre_lower_ones)
-- ==== Pre_fox_finite.lean ====
abbrev S16384x4608 : Shape := ⟨2, ![16384, 4608]⟩
abbrev S4x8x4096 : Shape := ⟨3, ![4, 8, 4096]⟩
abbrev S_ : Shape := ⟨0, ![]⟩

class Facts : Prop where
  bitsLt_bf16_f32 : FTy.bits .bf16 < FTy.bits .f32
  bcast_S_S16384x4608 : S_.BroadcastsInDim S16384x4608 (![] : Fin 0 → Fin S16384x4608.rank)
  reducesTo_S16384x4608_S_d0_1 : S16384x4608.ReducesTo [0, 1] S_
  h_S_ : 0 < S_.numel
  bcast_S_S4x8x4096 : S_.BroadcastsInDim S4x8x4096 (![] : Fin 0 → Fin S4x8x4096.rank)
  reducesTo_S4x8x4096_S_d0_1_2 : S4x8x4096.ReducesTo [0, 1, 2] S_

variable [Facts]

def fn {F : FTy → Type} [FloatOps F] (main_arg0 : FVec F S16384x4608 .bf16) (main_arg1 : FVec F S4x8x4096 .f32) : IVec S_ 1 :=
  let main_v0 : FVec F S16384x4608 .f32 := (extf .f32 · bitsLt_bf16_f32) main_arg0
  let main_v1 : FVec F S16384x4608 .f32 := Host.absf main_v0
  let main_cst : FVec F S_ .f32 := constant S_ .f32 0x7F800000#32
  let main_v2 : FVec F S16384x4608 .f32 := broadcastInDim S16384x4608 ![] bcast_S_S16384x4608 main_cst
  let main_v3 : IVec S16384x4608 1 := cmpf .olt main_v1 main_v2
  let main_c : IVec S_ 1 := constantI S_ 1 1#1
  let main_v4 : IVec S_ 1 := (fun x v => Host.reduce IntOp.andi x v reducesTo_S16384x4608_S_d0_1 h_S_) main_v3 main_c
  let main_v5 : FVec F S4x8x4096 .f32 := Host.absf main_arg1
  let main_cst_0 : FVec F S_ .f32 := constant S_ .f32 0x7F800000#32
  let main_v6 : FVec F S4x8x4096 .f32 := broadcastInDim S4x8x4096 ![] bcast_S_S4x8x4096 main_cst_0
  let main_v7 : IVec S4x8x4096 1 := cmpf .olt main_v5 main_v6
  let main_c_1 : IVec S_ 1 := constantI S_ 1 1#1
  let main_v8 : IVec S_ 1 := (fun x v => Host.reduce IntOp.andi x v reducesTo_S4x8x4096_S_d0_1_2 h_S_) main_v7 main_c_1
  let main_v9 : IVec S_ 1 := andi main_v4 main_v8
  main_v9
-- ==== Pre_lower_ones.lean ====
abbrev S16384x4096 : Shape := ⟨2, ![16384, 4096]⟩
abbrev S4x4096x128 : Shape := ⟨3, ![4, 4096, 128]⟩
abbrev S1x128 : Shape := ⟨2, ![1, 128]⟩
abbrev S512x512 : Shape := ⟨2, ![512, 512]⟩
abbrev S512 : Shape := ⟨1, ![512]⟩
abbrev S1x512 : Shape := ⟨2, ![1, 512]⟩
abbrev S512x1 : Shape := ⟨2, ![512, 1]⟩
abbrev S_ : Shape := ⟨0, ![]⟩

class Facts : Prop where
  bitsLt_bf16_f32 : FTy.bits .bf16 < FTy.bits .f32
  bcast_S512_S1x512_1 : S512.BroadcastsInDim S1x512 (![1] : Fin 1 → Fin S1x512.rank)
  bcast_S512_S512x1_0 : S512.BroadcastsInDim S512x1 (![0] : Fin 1 → Fin S512x1.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  reducesTo_S512x512_S_d0_1 : S512x512.ReducesTo [0, 1] S_
  h_S_ : 0 < S_.numel

variable [Facts]

def fn_where {F : FTy → Type} [FloatOps F] (arg0 : IVec S512x512 1) (arg1 : FVec F S_ .f32) (arg2 : FVec F S_ .f32) : FVec F S512x512 .f32 :=
  let v0 : FVec F S512x512 .f32 := broadcastInDim S512x512 ![] bcast_S_S512x512 arg1
  let v1 : FVec F S512x512 .f32 := broadcastInDim S512x512 ![] bcast_S_S512x512 arg2
  let v2 : FVec F S512x512 .f32 := select arg0 v0 v1
  v2

def fn {F : FTy → Type} [FloatOps F] (main_arg0 : FVec F S16384x4096 .bf16) (main_arg1 : FVec F S4x4096x128 .bf16) (main_arg2 : FVec F S1x128 .f32) (main_arg3 : FVec F S512x512 .bf16) : IVec S_ 1 :=
  let main_v0 : IVec S512 32 := iotaInDim S512 32 0
  let main_v1 : FVec F S512x512 .f32 := (extf .f32 · bitsLt_bf16_f32) main_arg3
  let main_v2 : IVec S1x512 32 := broadcastInDim S1x512 ![1] bcast_S512_S1x512_1 main_v0
  let main_v3 : IVec S512x1 32 := broadcastInDim S512x1 ![0] bcast_S512_S512x1_0 main_v0
  let main_v4 : IVec S512x512 32 := broadcastInDim S512x512 ![0, 1] bcast_S1x512_S512x512_0_1 main_v2
  let main_v5 : IVec S512x512 32 := broadcastInDim S512x512 ![0, 1] bcast_S512x1_S512x512_0_1 main_v3
  let main_v6 : IVec S512x512 1 := cmpi .sle main_v4 main_v5
  let main_cst : FVec F S_ .f32 := constant S_ .f32 0x3F800000#32
  let main_cst_0 : FVec F S_ .f32 := constant S_ .f32 0x00000000#32
  let main_v7 : FVec F S512x512 .f32 := fn_where (F := F) main_v6 main_cst main_cst_0
  let main_v8 : FVec F S512x512 .f32 := id main_v7
  let main_v9 : IVec S512x512 1 := cmpf .oeq main_v1 main_v8
  let main_c : IVec S_ 1 := constantI S_ 1 1#1
  let main_v10 : IVec S_ 1 := (fun x v => Host.reduce IntOp.andi x v reducesTo_S512x512_S_d0_1 h_S_) main_v9 main_c
  main_v10
-- ==== Merge.lean ====
abbrev S16384x4608 : Shape := ⟨2, ![16384, 4608]⟩
abbrev S16384x1024 : Shape := ⟨2, ![16384, 1024]⟩
abbrev S3x512x4096 : Shape := ⟨3, ![3, 512, 4096]⟩
abbrev S3x4096 : Shape := ⟨2, ![3, 4096]⟩
abbrev S3x1024x4096 : Shape := ⟨3, ![3, 1024, 4096]⟩
abbrev S4x4096x16384 : Shape := ⟨3, ![4, 4096, 16384]⟩
abbrev S16384x16384 : Shape := ⟨2, ![16384, 16384]⟩
abbrev S3x1x4096 : Shape := ⟨3, ![3, 1, 4096]⟩
abbrev S16384x4096 : Shape := ⟨2, ![16384, 4096]⟩
abbrev S4096x16384 : Shape := ⟨2, ![4096, 16384]⟩
abbrev S1024x512 : Shape := ⟨2, ![1024, 512]⟩
abbrev S1024x1024 : Shape := ⟨2, ![1024, 1024]⟩
abbrev S3x512x512 : Shape := ⟨3, ![3, 512, 512]⟩
abbrev S3x1x512 : Shape := ⟨3, ![3, 1, 512]⟩
abbrev S3x1024x512 : Shape := ⟨3, ![3, 1024, 512]⟩
abbrev S32x16384 : Shape := ⟨2, ![32, 16384]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S1x1024x512 : Shape := ⟨3, ![1, 1024, 512]⟩

abbrev nBuf : Space → Nat
  | .hbm => 12
  | .vmem => 20
  | .smem => 0
  | _ => 0

abbrev bufTy : (tb : Table) → Fin (tcTables nBuf tb) → BufTy
  | .hbm, ⟨0, _⟩ => ⟨S16384x4608, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S3x512x4096, .bf16⟩
  | .hbm, ⟨5, _⟩ => ⟨S3x4096, .f32⟩
  | .hbm, ⟨6, _⟩ => ⟨S3x1024x4096, .bf16⟩
  | .hbm, ⟨7, _⟩ => ⟨S4x4096x16384, .f32⟩
  | .hbm, ⟨8, _⟩ => ⟨S16384x16384, .f32⟩
  | .hbm, ⟨9, _⟩ => ⟨S3x1x4096, .f32⟩
  | .hbm, ⟨10, _⟩ => ⟨S16384x4096, .bf16⟩
  | .hbm, ⟨11, _⟩ => ⟨S4096x16384, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S3x512x512, .bf16⟩
  | .local _ .vmem, ⟨9, _⟩ => ⟨S3x512x512, .bf16⟩
  | .local _ .vmem, ⟨10, _⟩ => ⟨S3x1x512, .f32⟩
  | .local _ .vmem, ⟨11, _⟩ => ⟨S3x1x512, .f32⟩
  | .local _ .vmem, ⟨12, _⟩ => ⟨S3x1024x512, .bf16⟩
  | .local _ .vmem, ⟨13, _⟩ => ⟨S3x1024x512, .bf16⟩
  | .local _ .vmem, ⟨14, _⟩ => ⟨S32x16384, .f32⟩
  | .local _ .vmem, ⟨15, _⟩ => ⟨S32x16384, .f32⟩
  | .local _ .vmem, ⟨16, _⟩ => ⟨S1024x512, .bf16⟩
  | .local _ .vmem, ⟨17, _⟩ => ⟨S1024x512, .bf16⟩
  | .local _ .vmem, ⟨18, _⟩ => ⟨S32x16384, .bf16⟩
  | .local _ .vmem, ⟨19, _⟩ => ⟨S32x16384, .bf16⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c128_i32 : BitVec 32 := 128#32
  let v19 : BitVec 32 := Scalar.addi c128_i32 v18
  let c0_i32_5 : BitVec 32 := 0#32
  let c0_i32_6 : BitVec 32 := 0#32
  ![v19.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x16384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x4608 : Shape := ⟨2, ![16384, 4608]⟩
abbrev S16384x1024 : Shape := ⟨2, ![16384, 1024]⟩
abbrev S3x512x4096 : Shape := ⟨3, ![3, 512, 4096]⟩
abbrev S3x4096 : Shape := ⟨2, ![3, 4096]⟩
abbrev S3x1024x4096 : Shape := ⟨3, ![3, 1024, 4096]⟩
abbrev S4x4096x16384 : Shape := ⟨3, ![4, 4096, 16384]⟩
abbrev S16384x512 : Shape := ⟨2, ![16384, 512]⟩
abbrev S1x512x4096 : Shape := ⟨3, ![1, 512, 4096]⟩
abbrev S512x4096 : Shape := ⟨2, ![512, 4096]⟩
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S1x1024x4096 : Shape := ⟨3, ![1, 1024, 4096]⟩
abbrev S1024x4096 : Shape := ⟨2, ![1024, 4096]⟩
abbrev S1x4096x16384 : Shape := ⟨3, ![1, 4096, 16384]⟩
abbrev S4096x16384 : Shape := ⟨2, ![4096, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S3x512x4096, .bf16⟩
  | .hbm, ⟨5, _⟩ => ⟨S3x4096, .f32⟩
  | .hbm, ⟨6, _⟩ => ⟨S3x1024x4096, .bf16⟩
  | .hbm, ⟨7, _⟩ => ⟨S4x4096x16384, .f32⟩
  | .hbm, ⟨8, _⟩ => ⟨S16384x512, .bf16⟩
  | .hbm, ⟨9, _⟩ => ⟨S16384x512, .f32⟩
  | .hbm, ⟨10, _⟩ => ⟨S1x512x4096, .bf16⟩
  | .hbm, ⟨11, _⟩ => ⟨S512x4096, .bf16⟩
  | .hbm, ⟨12, _⟩ => ⟨S512x4096, .f32⟩
  | .hbm, ⟨13, _⟩ => ⟨S16384x4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S1x1024x4096, .bf16⟩
  | .hbm, ⟨29, _⟩ => ⟨S1024x4096, .bf16⟩
  | .hbm, ⟨30, _⟩ => ⟨S1024x4096, .f32⟩
  | .hbm, ⟨31, _⟩ => ⟨S16384x4096, .f32⟩
  | .hbm, ⟨32, _⟩ => ⟨S16384x4096, .f32⟩
  | .hbm, ⟨33, _⟩ => ⟨S1x512x4096, .bf16⟩
  | .hbm, ⟨34, _⟩ => ⟨S512x4096, .bf16⟩
  | .hbm, ⟨35, _⟩ => ⟨S512x4096, .f32⟩
  | .hbm, ⟨36, _⟩ => ⟨S16384x4096, .f32⟩
  | .hbm, ⟨37, _⟩ => ⟨S1x4096, .f32⟩
  | .hbm, ⟨38, _⟩ => ⟨S4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S16384x1024, .f32⟩
  | .hbm, ⟨51, _⟩ => ⟨S1x1024x4096, .bf16⟩
  | .hbm, ⟨52, _⟩ => ⟨S1024x4096, .bf16⟩
  | .hbm, ⟨53, _⟩ => ⟨S1024x4096, .f32⟩
  | .hbm, ⟨54, _⟩ => ⟨S16384x4096, .f32⟩
  | .hbm, ⟨55, _⟩ => ⟨S16384x4096, .f32⟩
  | .hbm, ⟨56, _⟩ => ⟨S16384x4096, .f32⟩
  | .hbm, ⟨57, _⟩ => ⟨S1x512x4096, .bf16⟩
  | .hbm, ⟨58, _⟩ => ⟨S512x4096, .bf16⟩
  | .hbm, ⟨59, _⟩ => ⟨S512x4096, .f32⟩
  | .hbm, ⟨60, _⟩ => ⟨S16384x4096, .f32⟩
  | .hbm, ⟨61, _⟩ => ⟨S1x4096, .f32⟩
  | .hbm, ⟨62, _⟩ => ⟨S4096, .f32⟩
  | .hbm, ⟨63, _⟩ => ⟨S1x4096, .f32⟩
  | .hbm, ⟨64, _⟩ => ⟨S16384x4096, .f32⟩
  | .hbm, ⟨65, _⟩ => ⟨S16384x4096, .f32⟩
  | .hbm, ⟨66, _⟩ => ⟨S16384x4096, .f32⟩
  | .hbm, ⟨67, _⟩ => ⟨S16384x4096, .f32⟩
  | .hbm, ⟨68, _⟩ => ⟨S_, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S16384x4096, .f32⟩
  | .hbm, ⟨73, _⟩ => ⟨S16384x4096, .f32⟩
  | .hbm, ⟨74, _⟩ => ⟨S16384x1024, .f32⟩
  | .hbm, ⟨75, _⟩ => ⟨S1x1024x4096, .bf16⟩
  | .hbm, ⟨76, _⟩ => ⟨S1024x4096, .bf16⟩
  | .hbm, ⟨77, _⟩ => ⟨S1024x4096, .f32⟩
  | .hbm, ⟨78, _⟩ => ⟨S16384x4096, .f32⟩
  | .hbm, ⟨79, _⟩ => ⟨S16384x4096, .f32⟩
  | .hbm, ⟨80, _⟩ => ⟨S16384x4096, .f32⟩
  | .hbm, ⟨81, _⟩ => ⟨S16384x4096, .bf16⟩
  | .hbm, ⟨82, _⟩ => ⟨S1x4096x16384, .f32⟩
  | .hbm, ⟨83, _⟩ => ⟨S4096x16384, .f32⟩
  | .hbm, ⟨84, _⟩ => ⟨S4096x16384, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Up.lean ====
abbrev S16384x4096 : Shape := ⟨2, ![16384, 4096]⟩
abbrev S4096x16384 : Shape := ⟨2, ![4096, 16384]⟩
abbrev S4x16384x4096 : Shape := ⟨3, ![4, 16384, 4096]⟩
abbrev S65536x4096 : Shape := ⟨2, ![65536, 4096]⟩
abbrev S16384x16384 : Shape := ⟨2, ![16384, 16384]⟩
abbrev S1024x4096 : Shape := ⟨2, ![1024, 4096]⟩
abbrev S4096x1024 : Shape := ⟨2, ![4096, 1024]⟩
abbrev S64x4096 : Shape := ⟨2, ![64, 4096]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S4x16384x4096, .f32⟩
  | .hbm, ⟨3, _⟩ => ⟨S65536x4096, .f32⟩
  | .hbm, ⟨4, _⟩ => ⟨S16384x16384, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x4096, .f32⟩
  | .local _ .vmem, ⟨5, _⟩ => ⟨S64x4096, .f32⟩
  | .local _ .vmem, ⟨6, _⟩ => ⟨S1024x1024, .bf16⟩
  | .local _ .vmem, ⟨7, _⟩ => ⟨S1024x1024, .bf16⟩
  | .local _ .vmem, ⟨8, _⟩ => ⟨S64x4096, .bf16⟩
  | .local _ .vmem, ⟨9, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c256_i32 : BitVec 32 := 256#32
  let v19 : BitVec 32 := Scalar.addi c256_i32 v18
  let c0_i32_5 : BitVec 32 := 0#32
  let c0_i32_6 : BitVec 32 := 0#32
  ![v19.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S16384x4096 : Shape := ⟨2, ![16384, 4096]⟩
abbrev S4096x16384 : Shape := ⟨2, ![4096, 16384]⟩
abbrev S4x16384x4096 : Shape := ⟨3, ![4, 16384, 4096]⟩
abbrev S16384x16384 : Shape := ⟨2, ![16384, 16384]⟩
abbrev S_ : Shape := ⟨0, ![]⟩
abbrev S1x16384x4096 : Shape := ⟨3, ![1, 16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S4x16384x4096, .f32⟩
  | .hbm, ⟨3, _⟩ => ⟨S16384x4096, .f32⟩
  | .hbm, ⟨4, _⟩ => ⟨S4096x16384, .f32⟩
  | .hbm, ⟨5, _⟩ => ⟨S16384x16384, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S16384x16384, .bf16⟩
  | .hbm, ⟨11, _⟩ => ⟨S1x16384x4096, .f32⟩
  | .hbm, ⟨12, _⟩ => ⟨S16384x4096, .f32⟩
  | .hbm, ⟨13, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Down.lean ====
abbrev S16384x16384 : Shape := ⟨2, ![16384, 16384]⟩
abbrev S16384x4096 : Shape := ⟨2, ![16384, 4096]⟩
abbrev S16384x128 : Shape := ⟨2, ![16384, 128]⟩
abbrev S4096 : Shape := ⟨1, ![4096]⟩
abbrev S1x4096 : Shape := ⟨2, ![1, 4096]⟩
abbrev S1024x1024 : Shape := ⟨2, ![1024, 1024]⟩
abbrev S1024x2048 : Shape := ⟨2, ![1024, 2048]⟩
abbrev S1024x128 : Shape := ⟨2, ![1024, 128]⟩
abbrev S1x2048 : Shape := ⟨2, ![1, 2048]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x128, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x128, .f32⟩
  | .local _ .vmem, ⟨7, _⟩ => ⟨S1024x128, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DownRefIdeal.lean ====
abbrev S16384x16384 : Shape := ⟨2, ![16384, 16384]⟩
abbrev S16384x4096 : Shape := ⟨2, ![16384, 4096]⟩
abbrev S16384x128 : Shape := ⟨2, ![16384, 128]⟩
abbrev S4096 : Shape := ⟨1, ![4096]⟩
abbrev S16384x1 : Shape := ⟨2, ![16384, 1]⟩
abbrev S1x4096 : Shape := ⟨2, ![1, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x128, .f32⟩
  | .hbm, ⟨4, _⟩ => ⟨S4096, .f32⟩
  | .hbm, ⟨5, _⟩ => ⟨S4096, .f32⟩
  | .hbm, ⟨6, _⟩ => ⟨S16384x1, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x16384, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S16384x128 : Shape := ⟨2, ![16384, 128]⟩
abbrev S4096 : Shape := ⟨1, ![4096]⟩
abbrev S1x4096 : Shape := ⟨2, ![1, 4096]⟩
abbrev S1024x4096 : Shape := ⟨2, ![1024, 4096]⟩
abbrev S4096x1024 : Shape := ⟨2, ![4096, 1024]⟩
abbrev S1024x1024 : Shape := ⟨2, ![1024, 1024]⟩
abbrev S1024x128 : Shape := ⟨2, ![1024, 128]⟩
abbrev S1x1024 : Shape := ⟨2, ![1, 1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x128, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRefIdeal.lean ====
abbrev S16384x4096 : Shape := ⟨2, ![16384, 4096]⟩
abbrev S4096x4096 : Shape := ⟨2, ![4096, 4096]⟩
abbrev S16384x128 : Shape := ⟨2, ![16384, 128]⟩
abbrev S4096 : Shape := ⟨1, ![4096]⟩
abbrev S16384x1 : Shape := ⟨2, ![16384, 1]⟩
abbrev S1x4096 : Shape := ⟨2, ![1, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S16384x128, .f32⟩
  | .hbm, ⟨4, _⟩ => ⟨S4096, .f32⟩
  | .hbm, ⟨5, _⟩ => ⟨S4096, .f32⟩
  | .hbm, ⟨6, _⟩ => ⟨S16384x1, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S4096x4096, .f32⟩
  | .hbm, ⟨23, _⟩ => ⟨S16384x4096, .f32⟩
  | .hbm, ⟨24, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InB.lean ====
abbrev S16384x4096 : Shape := ⟨2, ![16384, 4096]⟩
abbrev S4x4096x4608 : Shape := ⟨3, ![4, 4096, 4608]⟩
abbrev S16384x4608 : Shape := ⟨2, ![16384, 4608]⟩
abbrev S1024x4096 : Shape := ⟨2, ![1024, 4096]⟩
abbrev S1x4096x768 : Shape := ⟨3, ![1, 4096, 768]⟩
abbrev S1024x768 : Shape := ⟨2, ![1024, 768]⟩
abbrev S4096x768 : Shape := ⟨2, ![4096, 768]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x4096x4608, .bf16⟩
  | .hbm, ⟨2, _⟩ => ⟨S16384x4608, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S1024x768, .bf16⟩
  | .local _ .vmem, ⟨5, _⟩ => ⟨S1024x768, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S16384x4096 : Shape := ⟨2, ![16384, 4096]⟩
abbrev S4x4096x4608 : Shape := ⟨3, ![4, 4096, 4608]⟩
abbrev S1x4096x4608 : Shape := ⟨3, ![1, 4096, 4608]⟩
abbrev S4096x4608 : Shape := ⟨2, ![4096, 4608]⟩
abbrev S16384x4608 : Shape := ⟨2, ![16384, 4608]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4608, .bf16⟩
  | .hbm, ⟨2, _⟩ => ⟨S16384x4096, .f32⟩
  | .hbm, ⟨3, _⟩ => ⟨S1x4096x4608, .bf16⟩
  | .hbm, ⟨4, _⟩ => ⟨S4096x4608, .bf16⟩
  | .hbm, ⟨5, _⟩ => ⟨S4096x4608, .f32⟩
  | .hbm, ⟨6, _⟩ => ⟨S16384x4608, .f32⟩
  | .hbm, ⟨7, _⟩ => ⟨S16384x4608, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InF.lean ====
abbrev S16384x4096 : Shape := ⟨2, ![16384, 4096]⟩
abbrev S4x4096x6144 : Shape := ⟨3, ![4, 4096, 6144]⟩
abbrev S16384x6144 : Shape := ⟨2, ![16384, 6144]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x4096x6144, .bf16⟩
  | .hbm, ⟨2, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFRefIdeal.lean ====
abbrev S16384x4096 : Shape := ⟨2, ![16384, 4096]⟩
abbrev S4x4096x6144 : Shape := ⟨3, ![4, 4096, 6144]⟩
abbrev S1x4096x6144 : Shape := ⟨3, ![1, 4096, 6144]⟩
abbrev S4096x6144 : Shape := ⟨2, ![4096, 6144]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x6144, .bf16⟩
  | .hbm, ⟨2, _⟩ => ⟨S16384x4096, .f32⟩
  | .hbm, ⟨3, _⟩ => ⟨S1x4096x6144, .bf16⟩
  | .hbm, ⟨4, _⟩ => ⟨S4096x6144, .bf16⟩
  | .hbm, ⟨5, _⟩ => ⟨S4096x6144, .f32⟩
  | .hbm, ⟨6, _⟩ => ⟨S16384x6144, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .bf16⟩
  | .hbm, ⟨6, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x126 : Shape := ⟨2, ![16384, 126]⟩
abbrev S16384x128 : Shape := ⟨2, ![16384, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x126, .f32⟩
  | .hbm, ⟨34, _⟩ => ⟨S16384x128, .f32⟩
  | .hbm, ⟨35, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Last.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Fox.lean ====
abbrev S16384x4608 : Shape := ⟨2, ![16384, 4608]⟩
abbrev S4x8x4096 : Shape := ⟨3, ![4, 8, 4096]⟩
abbrev S16384x1024 : Shape := ⟨2, ![16384, 1024]⟩
abbrev S512x512 : Shape := ⟨2, ![512, 512]⟩
abbrev S4096x512 : Shape := ⟨2, ![4096, 512]⟩
abbrev S1x8x4096 : Shape := ⟨3, ![1, 8, 4096]⟩
abbrev S4x4096x256 : Shape := ⟨3, ![4, 4096, 256]⟩
abbrev S4x512x128 : Shape := ⟨3, ![4, 512, 128]⟩
abbrev S4x512x256 : Shape := ⟨3, ![4, 512, 256]⟩
abbrev S4x512x512 : Shape := ⟨3, ![4, 512, 512]⟩
abbrev S4096x128 : Shape := ⟨2, ![4096, 128]⟩
abbrev S1x4096x128 : Shape := ⟨3, ![1, 4096, 128]⟩
abbrev S1x1x512 : Shape := ⟨3, ![1, 1, 512]⟩
abbrev S1x512 : Shape := ⟨2, ![1, 512]⟩
abbrev S512x128 : Shape := ⟨2, ![512, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S1x64x128 : Shape := ⟨3, ![1, 64, 128]⟩
abbrev S64x384 : Shape := ⟨2, ![64, 384]⟩
abbrev S1x64x384 : Shape := ⟨3, ![1, 64, 384]⟩
abbrev S64x256 : Shape := ⟨2, ![64, 256]⟩
abbrev S1x256 : Shape := ⟨2, ![1, 256]⟩
abbrev S1x64x256 : Shape := ⟨3, ![1, 64, 256]⟩
abbrev S1x384 : Shape := ⟨2, ![1, 384]⟩
abbrev S64x512 : Shape := ⟨2, ![64, 512]⟩
abbrev S1x64x512 : Shape := ⟨3, ![1, 64, 512]⟩
abbrev S1x512x512 : Shape := ⟨3, ![1, 512, 512]⟩
abbrev S1x512x256 : Shape := ⟨3, ![1, 512, 256]⟩
abbrev S512x256 : Shape := ⟨2, ![512, 256]⟩
abbrev S512x1 : Shape := ⟨2, ![512, 1]⟩

abbrev nBuf : Space → Nat
  | .hbm => 3
  | .vmem => 14
  | .smem => 0
  | _ => 0

abbrev bufTy : (tb : Table) → Fin (tcTables nBuf tb) → BufTy
  | .hbm, ⟨0, _⟩ => ⟨S16384x4608, .bf16⟩
  | .hbm, ⟨1, _⟩ => ⟨S4x8x4096, .f32⟩
  | .hbm, ⟨2, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x8x4096, .f32⟩
  | .local _ .vmem, ⟨7, _⟩ => ⟨S1x8x4096, .f32⟩
  | .local _ .vmem, ⟨8, _⟩ => ⟨S512x512, .bf16⟩
  | .local _ .vmem, ⟨9, _⟩ => ⟨S512x512, .bf16⟩
  | .local _ .vmem, ⟨10, _⟩ => ⟨S4x4096x256, .bf16⟩
  | .local _ .vmem, ⟨11, _⟩ => ⟨S4x512x128, .f32⟩
  | .local _ .vmem, ⟨12, _⟩ => ⟨S4x512x256, .f32⟩
  | .local _ .vmem, ⟨13, _⟩ => ⟨S4x512x512, .bf16⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c512_i32 : BitVec 32 := 512#32
  let v3 : BitVec 32 := Scalar.muli arg2 c512_i32
  v3
def k0_off1 (i : grid0.Coords) (c0_i32_1 : BitVec 32) : Fin 3 → Nat :=
  let c0 : Index := 0#32
  let arg1 : BitVec 32 := BitVec.ofNat 32 (i 1).val
  let c4_i32 : BitVec 32 := 4#32
  let v5 : BitVec 32 := Scalar.muli arg1 c4_i32
  let v6 : BitVec 32 := Scalar.addi v5 c0_i32_1
  let v7 : Index := Scalar.indexCast v6
  let arg2 : BitVec 32 := BitVec.ofNat 32 (i 2).val
  let c512_i32 : BitVec 32 := 512#32
  let v3 : BitVec 32 := Scalar.muli arg2 c512_i32
  let v4 : BitVec 32 := v3
  let v8 : Index := Scalar.indexCast v4
  ![0, v7.toNat, v8.toNat]
def k0_off2 (i : grid0.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v14 : Index := Scalar.indexCast v4
  let c0_4 : Index := 0#32
  ![v14.toNat, 0]
def k0_off3 (i : grid0.Coords) : Fin 3 → Nat :=
  let c0_99 : Index := 0#32
  let arg2 : BitVec 32 := BitVec.ofNat 32 (i 2).val
  let c512_i32 : BitVec 32 := 512#32
  let v3 : BitVec 32 := Scalar.muli arg2 c512_i32
  let v4 : BitVec 32 := v3
  let v255 : Index := Scalar.indexCast v4
  let c0_100 : Index := 0#32
  ![0, v255.toNat, 0]
def k0_off4 (i : grid0.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v271 : Index := Scalar.indexCast v4
  let c128_110 : Index := 128#32
  ![v271.toNat, 128]
def k0_off5 (i : grid0.Coords) : Fin 3 → Nat :=
  let c1_218 : Index := 1#32
  let arg2 : BitVec 32 := BitVec.ofNat 32 (i 2).val
  let c512_i32 : BitVec 32 := 512#32
  let v3 : BitVec 32 := Scalar.muli arg2 c512_i32
  let v4 : BitVec 32 := v3
  let v512 : Index := Scalar.indexCast v4
  let c0_219 : Index := 0#32
  ![1, v512.toNat, 0]
def k0_off6 (i : grid0.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v528 : Index := Scalar.indexCast v4
  let c256_229 : Index := 256#32
  ![v528.toNat, 256]
def k0_off7 (i : grid0.Coords) : Fin 3 → Nat :=
  let c2_337 : Index := 2#32
  let arg2 : BitVec 32 := BitVec.ofNat 32 (i 2).val
  let c512_i32 : BitVec 32 := 512#32
  let v3 : BitVec 32 := Scalar.muli arg2 c512_i32
  let v4 : BitVec 32 := v3
  let v769 : Index := Scalar.indexCast v4
  let c0_338 : Index := 0#32
  ![2, v769.toNat, 0]
def k0_off8 (i : grid0.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v785 : Index := Scalar.indexCast v4
  let c384_348 : Index := 384#32
  ![v785.toNat, 384]
def k0_off9 (i : grid0.Coords) : Fin 3 → Nat :=
  let c3_456 : Index := 3#32
  let arg2 : BitVec 32 := BitVec.ofNat 32 (i 2).val
  let c512_i32 : BitVec 32 := 512#32
  let v3 : BitVec 32 := Scalar.muli arg2 c512_i32
  let v4 : BitVec 32 := v3
  let v1026 : Index := Scalar.indexCast v4
  let c0_457 : Index := 0#32
  ![3, v1026.toNat, 0]
@[reducible] def k0_t1_loop (i : grid0.Coords) : Scf.Loop 32 :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_465 : BitVec 32 := 1#32
  ⟨c0_i32_463, v1037, c1_i32_465⟩
def k0_mult2 (i : grid0.Coords) (k0_t1 : Fin (k0_t1_loop i).trips) : BitVec 32 :=
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  v1070
def k0_off10 (i : grid0.Coords) (k0_t1 : Fin (k0_t1_loop i).trips) (c0_i32_489 : BitVec 32) : Fin 3 → Nat :=
  let c0_490 : Index := 0#32
  let arg1 : BitVec 32 := BitVec.ofNat 32 (i 1).val
  let c4_i32_488 : BitVec 32 := 4#32
  let v1072 : BitVec 32 := Scalar.muli arg1 c4_i32_488
  let v1073 : BitVec 32 := Scalar.addi v1072 c0_i32_489
  let v1074 : Index := Scalar.indexCast v1073
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1075 : Index := Scalar.indexCast v1071
  ![0, v1074.toNat, v1075.toNat]
def k0_off11 (i : grid0.Coords) (k0_t1 : Fin (k0_t1_loop i).trips) : Fin 2 → Nat :=
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1081 : Index := Scalar.indexCast v1071
  let c0_494 : Index := 0#32
  ![v1081.toNat, 0]
def k0_off12 (i : grid0.Coords) (k0_t1 : Fin (k0_t1_loop i).trips) : Fin 3 → Nat :=
  let c0_635 : Index := 0#32
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1334 : Index := Scalar.indexCast v1071
  let c0_636 : Index := 0#32
  ![0, v1334.toNat, 0]
def k0_off13 (i : grid0.Coords) (k0_t1 : Fin (k0_t1_loop i).trips) : Fin 2 → Nat :=
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1353 : Index := Scalar.indexCast v1071
  let c128_650 : Index := 128#32
  ![v1353.toNat, 128]
def k0_off14 (i : grid0.Coords) (k0_t1 : Fin (k0_t1_loop i).trips) : Fin 3 → Nat :=
  let c1_791 : Index := 1#32
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1606 : Index := Scalar.indexCast v1071
  let c0_792 : Index := 0#32
  ![1, v1606.toNat, 0]
def k0_off15 (i : grid0.Coords) (k0_t1 : Fin (k0_t1_loop i).trips) : Fin 2 → Nat :=
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1625 : Index := Scalar.indexCast v1071
  let c256_806 : Index := 256#32
  ![v1625.toNat, 256]
def k0_off16 (i : grid0.Coords) (k0_t1 : Fin (k0_t1_loop i).trips) : Fin 3 → Nat :=
  let c2_947 : Index := 2#32
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1878 : Index := Scalar.indexCast v1071
  let c0_948 : Index := 0#32
  ![2, v1878.toNat, 0]
def k0_off17 (i : grid0.Coords) (k0_t1 : Fin (k0_t1_loop i).trips) : Fin 2 → Nat :=
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v1897 : Index := Scalar.indexCast v1071
  let c384_962 : Index := 384#32
  ![v1897.toNat, 384]
def k0_off18 (i : grid0.Coords) (k0_t1 : Fin (k0_t1_loop i).trips) : Fin 3 → Nat :=
  let c3_1103 : Index := 3#32
  let c0_i32_463 : BitVec 32 := 0#32
  let c1_i32_465 : BitVec 32 := 1#32
  let arg12 : BitVec 32 := Scf.iv c0_i32_463 c1_i32_465 k0_t1
  let c512_i32_487 : BitVec 32 := 512#32
  let v1070 : BitVec 32 := Scalar.muli arg12 c512_i32_487
  let v1071 : BitVec 32 := v1070
  let v2150 : Index := Scalar.indexCast v1071
  let c0_1104 : Index := 0#32
  ![3, v2150.toNat, 0]
@[reducible] def k0_t2_loop (i : grid0.Coords) : Scf.Loop 32 :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let v1034 : BitVec 32 := Scalar.addi c0_i32_463 v1033
  let c1_i32_466 : BitVec 32 := 1#32
  ⟨v1037, v1034, c1_i32_466⟩
def k0_mult3 (i : grid0.Coords) (k0_t2 : Fin (k0_t2_loop i).trips) : BitVec 32 :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  v1070
def k0_off19 (i : grid0.Coords) (k0_t2 : Fin (k0_t2_loop i).trips) (c0_i32_489 : BitVec 32) : Fin 3 → Nat :=
  let c0_490 : Index := 0#32
  let arg1 : BitVec 32 := BitVec.ofNat 32 (i 1).val
  let c4_i32_488 : BitVec 32 := 4#32
  let v1072 : BitVec 32 := Scalar.muli arg1 c4_i32_488
  let v1073 : BitVec 32 := Scalar.addi v1072 c0_i32_489
  let v1074 : Index := Scalar.indexCast v1073
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1075 : Index := Scalar.indexCast v1071
  ![0, v1074.toNat, v1075.toNat]
def k0_off20 (i : grid0.Coords) (k0_t2 : Fin (k0_t2_loop i).trips) : Fin 2 → Nat :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1081 : Index := Scalar.indexCast v1071
  let c0_494 : Index := 0#32
  ![v1081.toNat, 0]
def k0_off21 (i : grid0.Coords) (k0_t2 : Fin (k0_t2_loop i).trips) : Fin 3 → Nat :=
  let c0_635 : Index := 0#32
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1334 : Index := Scalar.indexCast v1071
  let c0_636 : Index := 0#32
  ![0, v1334.toNat, 0]
def k0_off22 (i : grid0.Coords) (k0_t2 : Fin (k0_t2_loop i).trips) : Fin 2 → Nat :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1353 : Index := Scalar.indexCast v1071
  let c128_650 : Index := 128#32
  ![v1353.toNat, 128]
def k0_off23 (i : grid0.Coords) (k0_t2 : Fin (k0_t2_loop i).trips) : Fin 3 → Nat :=
  let c1_791 : Index := 1#32
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1606 : Index := Scalar.indexCast v1071
  let c0_792 : Index := 0#32
  ![1, v1606.toNat, 0]
def k0_off24 (i : grid0.Coords) (k0_t2 : Fin (k0_t2_loop i).trips) : Fin 2 → Nat :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1625 : Index := Scalar.indexCast v1071
  let c256_806 : Index := 256#32
  ![v1625.toNat, 256]
def k0_off25 (i : grid0.Coords) (k0_t2 : Fin (k0_t2_loop i).trips) : Fin 3 → Nat :=
  let c2_947 : Index := 2#32
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1878 : Index := Scalar.indexCast v1071
  let c0_948 : Index := 0#32
  ![2, v1878.toNat, 0]
def k0_off26 (i : grid0.Coords) (k0_t2 : Fin (k0_t2_loop i).trips) : Fin 2 → Nat :=
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v1897 : Index := Scalar.indexCast v1071
  let c384_962 : Index := 384#32
  ![v1897.toNat, 384]
def k0_off27 (i : grid0.Coords) (k0_t2 : Fin (k0_t2_loop i).trips) : Fin 3 → Nat :=
  let c3_1103 : Index := 3#32
  let c0_i32_463 : BitVec 32 := 0#32
  let arg2 : BitVec 32 := BitVec.ofNat 32 (i 2).val
  let v1033 : BitVec 32 := Scalar.subi arg2 c0_i32_463
  let c1_i32_464 : BitVec 32 := 1#32
  let v1035 : BitVec 32 := Scalar.divsi v1033 c1_i32_464
  let v1036 : BitVec 32 := Scalar.muli v1035 c1_i32_464
  let v1037 : BitVec 32 := Scalar.addi c0_i32_463 v1036
  let c1_i32_466 : BitVec 32 := 1#32
  let arg12 : BitVec 32 := Scf.iv v1037 c1_i32_466 k0_t2
  let c512_i32_487 : BitVec 32 := 512#32
  let v1070 : BitVec 32 := Scalar.muli arg12 c512_i32_487
  let v1071 : BitVec 32 := v1070
  let v2150 : Index := Scalar.indexCast v1071
  let c0_1104 : Index := 0#32
  ![3, v2150.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== FoxRefIdeal.lean ====
abbrev S16384x4608 : Shape := ⟨2, ![16384, 4608]⟩
abbrev S4x8x4096 : Shape := ⟨3, ![4, 8, 4096]⟩
abbrev S16384x1024 : Shape := ⟨2, ![16384, 1024]⟩
abbrev S4x4096x8x128 : Shape := ⟨4, ![4, 4096, 8, 128]⟩
abbrev S4x8x4096x4096 : Shape := ⟨4, ![4, 8, 4096, 4096]⟩
abbrev S_ : Shape := ⟨0, ![]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x128x4096 : Shape := ⟨4, ![4, 8, 128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S4x8x4096, .f32⟩
  | .hbm, ⟨2, _⟩ => ⟨S16384x1024, .bf16⟩
  | .hbm, ⟨3, _⟩ => ⟨S16384x1024, .f32⟩
  | .hbm, ⟨4, _⟩ => ⟨S4x4096x8x128, .f32⟩
  | .hbm, ⟨5, _⟩ => ⟨S16384x1024, .bf16⟩
  | .hbm, ⟨6, _⟩ => ⟨S16384x1024, .f32⟩
  | .hbm, ⟨7, _⟩ => ⟨S4x4096x8x128, .f32⟩
  | .hbm, ⟨8, _⟩ => ⟨S16384x1024, .bf16⟩
  | .hbm, ⟨9, _⟩ => ⟨S16384x1024, .f32⟩
  | .hbm, ⟨10, _⟩ => ⟨S4x4096x8x128, .f32⟩
  | .hbm, ⟨11, _⟩ => ⟨S4x8x4096x4096, .f32⟩
  | .hbm, ⟨12, _⟩ => ⟨S_, .f32⟩
  | .hbm, ⟨13, _⟩ => ⟨S4x8x4096x4096, .f32⟩
  | .hbm, ⟨14, _⟩ => ⟨S4x8x4096x4096, .f32⟩
  | .hbm, ⟨15, _⟩ => ⟨S4x8x4096x1, .f32⟩
  | .hbm, ⟨16, _⟩ => ⟨S4x8x1x4096, .f32⟩
  | .hbm, ⟨17, _⟩ => ⟨S4x8x4096x4096, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S4x8x4096x4096, .i1⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S_, .f32⟩
  | .hbm, ⟨35, _⟩ => ⟨S4x8x4096, .f32⟩
  | .hbm, ⟨36, _⟩ => ⟨S4x8x4096, .f32⟩
  | .hbm, ⟨37, _⟩ => ⟨S4x8x4096x1, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S_, .f32⟩
  | .hbm, ⟨42, _⟩ => ⟨S4x8x4096, .f32⟩
  | .hbm, ⟨43, _⟩ => ⟨S4x8x4096x1, .f32⟩
  | .hbm, ⟨44, _⟩ => ⟨S4x8x4096x4096, .f32⟩
  | .hbm, ⟨45, _⟩ => ⟨S4x8x4096x4096, .f32⟩
  | .hbm, ⟨46, _⟩ => ⟨S4x8x128x4096, .f32⟩
  | .hbm, ⟨47, _⟩ => ⟨S4x4096x8x128, .f32⟩
  | .hbm, ⟨48, _⟩ => ⟨S16384x1024, .f32⟩
  | .hbm, ⟨49, _⟩ => ⟨S16384x1024, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Gates.lean ====
abbrev S16384x4096 : Shape := ⟨2, ![16384, 4096]⟩
abbrev S4x4096x128 : Shape := ⟨3, ![4, 4096, 128]⟩
abbrev S1x128 : Shape := ⟨2, ![1, 128]⟩
abbrev S512x512 : Shape := ⟨2, ![512, 512]⟩
abbrev S16384x128 : Shape := ⟨2, ![16384, 128]⟩
abbrev S4x8x4096 : Shape := ⟨3, ![4, 8, 4096]⟩
abbrev S512x4096 : Shape := ⟨2, ![512, 4096]⟩
abbrev S1x4096x128 : Shape := ⟨3, ![1, 4096, 128]⟩
abbrev S512x128 : Shape := ⟨2, ![512, 128]⟩
abbrev S1x8x512 : Shape := ⟨3, ![1, 8, 512]⟩
abbrev S4096x128 : Shape := ⟨2, ![4096, 128]⟩
abbrev S128x512 : Shape := ⟨2, ![128, 512]⟩
abbrev S8x512 : Shape := ⟨2, ![8, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4x4096x128, .bf16⟩
  | .hbm, ⟨2, _⟩ => ⟨S1x128, .f32⟩
  | .hbm, ⟨3, _⟩ => ⟨S512x512, .bf16⟩
  | .hbm, ⟨4, _⟩ => ⟨S16384x128, .f32⟩
  | .hbm, ⟨5, _⟩ => ⟨S4x8x4096, .f32⟩
  | .local _ .vmem, ⟨0, _⟩ => ⟨S512x4096, .bf16⟩
  | .local _ .vmem, ⟨1, _⟩ => ⟨S512x4096, .bf16⟩
  | .local _ .vmem, ⟨2, _⟩ => ⟨S1x4096x128, .bf16⟩
  | .local _ .vmem, ⟨3, _⟩ => ⟨S1x128, .f32⟩
  | .local _ .vmem, ⟨4, _⟩ => ⟨S512x512, .bf16⟩
  | .local _ .vmem, ⟨5, _⟩ => ⟨S512x128, .f32⟩
  | .local _ .vmem, ⟨6, _⟩ => ⟨S512x128, .f32⟩
  | .local _ .vmem, ⟨7, _⟩ => ⟨S1x8x512, .f32⟩
  | .local _ .vmem, ⟨8, _⟩ => ⟨S1x8x512, .f32⟩
  | .local _ .vmem, ⟨9, _⟩ => ⟨S1x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatesRefIdeal.lean ====
abbrev S16384x4096 : Shape := ⟨2, ![16384, 4096]⟩
abbrev S4x4096x128 : Shape := ⟨3, ![4, 4096, 128]⟩
abbrev S1x128 : Shape := ⟨2, ![1, 128]⟩
abbrev S512x512 : Shape := ⟨2, ![512, 512]⟩
abbrev S1x4096x128 : Shape := ⟨3, ![1, 4096, 128]⟩
abbrev S4096x128 : Shape := ⟨2, ![4096, 128]⟩
abbrev S16384x128 : Shape := ⟨2, ![16384, 128]⟩
abbrev S_ : Shape := ⟨0, ![]⟩
abbrev S128 : Shape := ⟨1, ![128]⟩
abbrev S4x4096x8 : Shape := ⟨3, ![4, 4096, 8]⟩
abbrev S4x8x4096 : Shape := ⟨3, ![4, 8, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x128, .bf16⟩
  | .hbm, ⟨2, _⟩ => ⟨S1x128, .f32⟩
  | .hbm, ⟨3, _⟩ => ⟨S512x512, .bf16⟩
  | .hbm, ⟨4, _⟩ => ⟨S16384x4096, .f32⟩
  | .hbm, ⟨5, _⟩ => ⟨S1x4096x128, .bf16⟩
  | .hbm, ⟨6, _⟩ => ⟨S4096x128, .bf16⟩
  | .hbm, ⟨7, _⟩ => ⟨S4096x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .i1⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S4x4096x128, .f32⟩
  | .hbm, ⟨28, _⟩ => ⟨S_, .f32⟩
  | .hbm, ⟨29, _⟩ => ⟨S_, .f32⟩
  | .hbm, ⟨30, _⟩ => ⟨S4x4096x128, .f32⟩
  | .hbm, ⟨31, _⟩ => ⟨S128, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .i1⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S4x4096x128, .f32⟩
  | .hbm, ⟨50, _⟩ => ⟨S4x4096x128, .i1⟩
  | .hbm, ⟨51, _⟩ => ⟨S4x4096x128, .f32⟩
  | .hbm, ⟨52, _⟩ => ⟨S16384x128, .f32⟩
  | .hbm, ⟨53, _⟩ => ⟨S4x4096x8, .f32⟩
  | .hbm, ⟨54, _⟩ => ⟨S4x8x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_call1_call0_cst : Ref sig .tc := ⟨.hbm, 28, rfl⟩
abbrev main_call1_call0_v0 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_call2_cst : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_v13 : Ref sig .tc := ⟨.hbm, 48, rfl⟩
abbrev main_v14 : Ref sig .tc := ⟨.hbm, 49, rfl⟩
abbrev main_call3_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩

abbrev nD : Nat := 1
abbrev τ : Topo := Topo.v7x

variable {F : FTy → Type} [FloatOps F]
-- ==== Proof.MergeValue.lean ====
/- The value of the program Merge: the three mixers' results, each projected and multiplied by its own per-channel gate,
   added up; and the cast of one layer's up weights, which the same call carries along. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeIdeal.Gated

open Cert.MergeIdeal Cert.MergeIdeal.Gen Idealize.ShloMosaic Idealize.ShloMosaic.TcCoe Idealize.SL.Sem

variable (m : (ℓ : Loc nD τ sig) → Buf (Elt Ideal) ℓ) (ρ : Dev nD → PrngReg)

/-- The gated sum that the reference computes, on the kernel's own arguments. -/
abbrev G (c : Dev nD) : (⟨S16384x4096, .bf16⟩ : BufTy).Contents (Elt Ideal) :=
  Cert.MergeRefIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The reference's cast of layer 1's up weights. -/
abbrev H (c : Dev nD) : (⟨S4096x16384, .bf16⟩ : BufTy).Contents (Elt Ideal) :=
  Cert.MergeRefIdeal.Read.val_main_v70 (F := Ideal) (m ((c : Thread nD τ).loc main_arg7))

/-- Where the ten windows stand at grid point `t`: row block `t / 8` of the gate's latents (columns 4096 to 4607 of the
projection, its ninth stretch of 512) and of the three mixers' results, column block `t % 8` of the weights and of the
result; block `t` of the 128 into which a layer's up weights are cut, those of layer 1 beginning at 128. -/
theorem idx : ∀ t : Fin cfg0.N, win0_0.index t = ![t.val / 8, 8]
    ∧ win0_1.index t = ![t.val / 8, 0]
    ∧ win0_2.index t = ![t.val / 8, 0]
    ∧ win0_3.index t = ![t.val / 8, 0]
    ∧ win0_4.index t = ![0, 0, t.val % 8]
    ∧ win0_5.index t = ![0, 0, t.val % 8]
    ∧ win0_6.index t = ![0, 0, t.val % 8]
    ∧ win0_7.index t = ![128 + t.val, 0]
    ∧ win0_8.index t = ![t.val / 8, t.val % 8]
    ∧ win0_9.index t = ![t.val, 0] :=
  (by decide +kernel : ∀ t : Fin grid0.N, win0_0.index t = ![t.val / 8, 8]
    ∧ win0_1.index t = ![t.val / 8, 0]
    ∧ win0_2.index t = ![t.val / 8, 0]
    ∧ win0_3.index t = ![t.val / 8, 0]
    ∧ win0_4.index t = ![0, 0, t.val % 8]
    ∧ win0_5.index t = ![0, 0, t.val % 8]
    ∧ win0_6.index t = ![0, 0, t.val % 8]
    ∧ win0_7.index t = ![128 + t.val, 0]
    ∧ win0_8.index t = ![t.val / 8, t.val % 8]
    ∧ win0_9.index t = ![t.val, 0])

/-- After the run the first result array is the reference's gated sum. -/
theorem final (c : Dev nD) : (dats m 0 c).arrAt 8 cfg0.N = G m c := by
  refine (dats m 0 c).arrAt_eq_of_covers 8 _ (by decide +kernel) fun t hf y => ?_
  blk_simp
  rw [after0_8]
  frame_out
  idx_vars y
  unfold_payloads
  pointwise [G, Cert.MergeRefIdeal.Read.val_main_v0, Cert.MergeRefIdeal.Read.val_main_v1,
    Cert.MergeRefIdeal.Read.val_main_v2, Cert.MergeRefIdeal.Read.val_main_v3, Cert.MergeRefIdeal.Read.val_main_v4,
    Cert.MergeRefIdeal.Read.val_main_v5, Cert.MergeRefIdeal.Read.val_main_v6, Cert.MergeRefIdeal.Read.val_main_v7,
    Cert.MergeRefIdeal.Read.val_main_v8, Cert.MergeRefIdeal.Read.val_main_v9, Cert.MergeRefIdeal.Read.val_main_v10,
    Cert.MergeRefIdeal.Read.val_main_v11, Cert.MergeRefIdeal.Read.val_main_v12, Cert.MergeRefIdeal.Read.val_main_cst,
    Cert.MergeRefIdeal.Read.val_main_v13, Cert.MergeRefIdeal.Read.val_main_v14,
    Cert.MergeRefIdeal.Read.val_main_cst_0, Cert.MergeRefIdeal.Read.val_main_v15,
    Cert.MergeRefIdeal.Read.val_main_v16, Cert.MergeRefIdeal.Read.val_main_v17, Cert.MergeRefIdeal.Read.val_main_v18,
    Cert.MergeRefIdeal.Read.val_main_v19, Cert.MergeRefIdeal.Read.val_main_v20, Cert.MergeRefIdeal.Read.val_main_v21,
    Cert.MergeRefIdeal.Read.val_main_v22, Cert.MergeRefIdeal.Read.val_main_v23, Cert.MergeRefIdeal.Read.val_main_v24,
    Cert.MergeRefIdeal.Read.val_main_v25, Cert.MergeRefIdeal.Read.val_main_v26, Cert.MergeRefIdeal.Read.val_main_v27,
    Cert.MergeRefIdeal.Read.val_main_v28, Cert.MergeRefIdeal.Read.val_main_v29, Cert.MergeRefIdeal.Read.val_main_v30,
    Cert.MergeRefIdeal.Read.val_main_v31, Cert.MergeRefIdeal.Read.val_main_v32, Cert.MergeRefIdeal.Read.val_main_v33,
    Cert.MergeRefIdeal.Read.val_main_cst_1, Cert.MergeRefIdeal.Read.val_main_v34,
    Cert.MergeRefIdeal.Read.val_main_v35, Cert.MergeRefIdeal.Read.val_main_cst_2,
    Cert.MergeRefIdeal.Read.val_main_v36, Cert.MergeRefIdeal.Read.val_main_v37, Cert.MergeRefIdeal.Read.val_main_v38,
    Cert.MergeRefIdeal.Read.val_main_v39, Cert.MergeRefIdeal.Read.val_main_v40, Cert.MergeRefIdeal.Read.val_main_v41,
    Cert.MergeRefIdeal.Read.val_main_v42, Cert.MergeRefIdeal.Read.val_main_v43, Cert.MergeRefIdeal.Read.val_main_v44,
    Cert.MergeRefIdeal.Read.val_main_v45, Cert.MergeRefIdeal.Read.val_main_v46, Cert.MergeRefIdeal.Read.val_main_v47,
    Cert.MergeRefIdeal.Read.val_main_v48, Cert.MergeRefIdeal.Read.val_main_v49, Cert.MergeRefIdeal.Read.val_main_v50,
    Cert.MergeRefIdeal.Read.val_main_v51, Cert.MergeRefIdeal.Read.val_main_v52, Cert.MergeRefIdeal.Read.val_main_v53,
    Cert.MergeRefIdeal.Read.val_main_v54, Cert.MergeRefIdeal.Read.val_main_v55,
    Cert.MergeRefIdeal.Read.val_main_cst_3, Cert.MergeRefIdeal.Read.val_main_v56,
    Cert.MergeRefIdeal.Read.val_main_v57, Cert.MergeRefIdeal.Read.val_main_cst_4,
    Cert.MergeRefIdeal.Read.val_main_v58, Cert.MergeRefIdeal.Read.val_main_v59, Cert.MergeRefIdeal.Read.val_main_v60,
    Cert.MergeRefIdeal.Read.val_main_v61, Cert.MergeRefIdeal.Read.val_main_v62, Cert.MergeRefIdeal.Read.val_main_v63,
    Cert.MergeRefIdeal.Read.val_main_v64, Cert.MergeRefIdeal.Read.val_main_v65, Cert.MergeRefIdeal.Read.val_main_v66,
    Cert.MergeRefIdeal.Read.val_main_v67, Cert.MergeRefIdeal.Read.val_main_v68, Cert.MergeRefIdeal.Read.val_main_v69,
    Cert.MergeRefIdeal.Read.val_main_v70]
  simp only [zero_sub]
  blk_point [iblk, V, idx t]

/-- After the run the second result array is the layer's weights, cast. -/
theorem final_side (c : Dev nD) : (dats m 0 c).arrAt 9 cfg0.N = H m c := by
  refine (dats m 0 c).arrAt_eq_of_covers 9 _ (by decide +kernel) fun t hf y => ?_
  blk_simp
  rw [after0_9]
  frame_out
  idx_vars y
  unfold_payloads
  pointwise [H, Cert.MergeRefIdeal.Read.val_main_v0, Cert.MergeRefIdeal.Read.val_main_v1,
    Cert.MergeRefIdeal.Read.val_main_v2, Cert.MergeRefIdeal.Read.val_main_v3, Cert.MergeRefIdeal.Read.val_main_v4,
    Cert.MergeRefIdeal.Read.val_main_v5, Cert.MergeRefIdeal.Read.val_main_v6, Cert.MergeRefIdeal.Read.val_main_v7,
    Cert.MergeRefIdeal.Read.val_main_v8, Cert.MergeRefIdeal.Read.val_main_v9, Cert.MergeRefIdeal.Read.val_main_v10,
    Cert.MergeRefIdeal.Read.val_main_v11, Cert.MergeRefIdeal.Read.val_main_v12, Cert.MergeRefIdeal.Read.val_main_cst,
    Cert.MergeRefIdeal.Read.val_main_v13, Cert.MergeRefIdeal.Read.val_main_v14,
    Cert.MergeRefIdeal.Read.val_main_cst_0, Cert.MergeRefIdeal.Read.val_main_v15,
    Cert.MergeRefIdeal.Read.val_main_v16, Cert.MergeRefIdeal.Read.val_main_v17, Cert.MergeRefIdeal.Read.val_main_v18,
    Cert.MergeRefIdeal.Read.val_main_v19, Cert.MergeRefIdeal.Read.val_main_v20, Cert.MergeRefIdeal.Read.val_main_v21,
    Cert.MergeRefIdeal.Read.val_main_v22, Cert.MergeRefIdeal.Read.val_main_v23, Cert.MergeRefIdeal.Read.val_main_v24,
    Cert.MergeRefIdeal.Read.val_main_v25, Cert.MergeRefIdeal.Read.val_main_v26, Cert.MergeRefIdeal.Read.val_main_v27,
    Cert.MergeRefIdeal.Read.val_main_v28, Cert.MergeRefIdeal.Read.val_main_v29, Cert.MergeRefIdeal.Read.val_main_v30,
    Cert.MergeRefIdeal.Read.val_main_v31, Cert.MergeRefIdeal.Read.val_main_v32, Cert.MergeRefIdeal.Read.val_main_v33,
    Cert.MergeRefIdeal.Read.val_main_cst_1, Cert.MergeRefIdeal.Read.val_main_v34,
    Cert.MergeRefIdeal.Read.val_main_v35, Cert.MergeRefIdeal.Read.val_main_cst_2,
    Cert.MergeRefIdeal.Read.val_main_v36, Cert.MergeRefIdeal.Read.val_main_v37, Cert.MergeRefIdeal.Read.val_main_v38,
    Cert.MergeRefIdeal.Read.val_main_v39, Cert.MergeRefIdeal.Read.val_main_v40, Cert.MergeRefIdeal.Read.val_main_v41,
    Cert.MergeRefIdeal.Read.val_main_v42, Cert.MergeRefIdeal.Read.val_main_v43, Cert.MergeRefIdeal.Read.val_main_v44,
    Cert.MergeRefIdeal.Read.val_main_v45, Cert.MergeRefIdeal.Read.val_main_v46, Cert.MergeRefIdeal.Read.val_main_v47,
    Cert.MergeRefIdeal.Read.val_main_v48, Cert.MergeRefIdeal.Read.val_main_v49, Cert.MergeRefIdeal.Read.val_main_v50,
    Cert.MergeRefIdeal.Read.val_main_v51, Cert.MergeRefIdeal.Read.val_main_v52, Cert.MergeRefIdeal.Read.val_main_v53,
    Cert.MergeRefIdeal.Read.val_main_v54, Cert.MergeRefIdeal.Read.val_main_v55,
    Cert.MergeRefIdeal.Read.val_main_cst_3, Cert.MergeRefIdeal.Read.val_main_v56,
    Cert.MergeRefIdeal.Read.val_main_v57, Cert.MergeRefIdeal.Read.val_main_cst_4,
    Cert.MergeRefIdeal.Read.val_main_v58, Cert.MergeRefIdeal.Read.val_main_v59, Cert.MergeRefIdeal.Read.val_main_v60,
    Cert.MergeRefIdeal.Read.val_main_v61, Cert.MergeRefIdeal.Read.val_main_v62, Cert.MergeRefIdeal.Read.val_main_v63,
    Cert.MergeRefIdeal.Read.val_main_v64, Cert.MergeRefIdeal.Read.val_main_v65, Cert.MergeRefIdeal.Read.val_main_v66,
    Cert.MergeRefIdeal.Read.val_main_v67, Cert.MergeRefIdeal.Read.val_main_v68, Cert.MergeRefIdeal.Read.val_main_v69,
    Cert.MergeRefIdeal.Read.val_main_v70]
  blk_point [iblk, V, idx t]

end Cert.MergeIdeal.Gated

end
-- ==== Proof.UpValue.lean ====
/- The value of the program Up: the feed-forward network's first product with the square of its positive part, and the
   cast of one layer's down weights, which the same call carries along. -/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise

@[expose] public section

set_option maxRecDepth 16384

noncomputable section

namespace Cert.UpIdeal.Relu2

open Cert.UpIdeal Cert.UpIdeal.Gen Idealize.ShloMosaic Idealize.ShloMosaic.TcCoe Idealize.SL.Sem

variable (m : (ℓ : Loc nD τ sig) → Buf (Elt Ideal) ℓ) (ρ : Dev nD → PrngReg)

/-- The squared positive part that the reference computes, on the kernel's own arguments. -/
abbrev G (c : Dev nD) : (⟨S16384x16384, .bf16⟩ : BufTy).Contents (Elt Ideal) :=
  Cert.UpRefIdeal.Read.val_main_v5 (F := Ideal) (m ((c : Thread nD τ).loc main_arg0)) (m ((c : Thread nD τ).loc main_arg1))

/-- The reference's cast of layer 1's down weights. -/
abbrev H (c : Dev nD) : (⟨S16384x4096, .bf16⟩ : BufTy).Contents (Elt Ideal) :=
  Cert.UpRefIdeal.Read.val_main_v8 (F := Ideal) (m ((c : Thread nD τ).loc main_arg2))

/-- Where the five windows stand at grid point `t`: row block `t / 16` of the tokens and column block `t % 16` of the
weights; block `t` of the 256 into which a layer's down weights are cut, those of layer 1 beginning at 256. -/
theorem idx : ∀ t : Fin cfg0.N, win0_0.index t = ![t.val / 16, 0]
    ∧ win0_1.index t = ![0, t.val % 16]
    ∧ win0_2.index t = ![256 + t.val, 0]
    ∧ win0_3.index t = ![t.val / 16, t.val % 16]
    ∧ win0_4.index t = ![t.val, 0] :=
  (by decide +kernel : ∀ t : Fin grid0.N, win0_0.index t = ![t.val / 16, 0]
    ∧ win0_1.index t = ![0, t.val % 16]
    ∧ win0_2.index t = ![256 + t.val, 0]
    ∧ win0_3.index t = ![t.val / 16, t.val % 16]
    ∧ win0_4.index t = ![t.val, 0])

/-- After the run the first result array is the reference's squared positive part. -/
theorem final (c : Dev nD) : (dats m 0 c).arrAt 3 cfg0.N = G m c := by
  refine (dats m 0 c).arrAt_eq_of_covers 3 _ (by decide +kernel) fun t hf y => ?_
  blk_simp
  rw [after0_3]
  frame_out
  idx_vars y
  unfold_payloads
  pointwise [G, Cert.UpRefIdeal.Read.val_main_v0, Cert.UpRefIdeal.Read.val_main_v1, Cert.UpRefIdeal.Read.val_main_v2,
    Cert.UpRefIdeal.Read.val_main_call0_cst, Cert.UpRefIdeal.Read.val_main_call0_v0,
    Cert.UpRefIdeal.Read.val_main_v3, Cert.UpRefIdeal.Read.val_main_v4, Cert.UpRefIdeal.Read.val_main_v5,
    Cert.UpRefIdeal.Read.val_main_v6, Cert.UpRefIdeal.Read.val_main_v7, Cert.UpRefIdeal.Read.val_main_v8]
  blk_point [iblk, V, idx t]

/-- After the run the second result array is the layer's weights, cast. -/
theorem final_side (c : Dev nD) : (dats m 0 c).arrAt 4 cfg0.N = H m c := by
  refine (dats m 0 c).arrAt_eq_of_covers 4 _ (by decide +kernel) fun t hf y => ?_
  blk_simp
  rw [after0_4]
  frame_out
  idx_vars y
  unfold_payloads
  pointwise [H, Cert.UpRefIdeal.Read.val_main_v0, Cert.UpRefIdeal.Read.val_main_v1, Cert.UpRefIdeal.Read.val_main_v2,
    Cert.UpRefIdeal.Read.val_main_call0_cst, Cert.UpRefIdeal.Read.val_main_call0_v0,
    Cert.UpRefIdeal.Read.val_main_v3, Cert.UpRefIdeal.Read.val_main_v4, Cert.UpRefIdeal.Read.val_main_v5,
    Cert.UpRefIdeal.Read.val_main_v6, Cert.UpRefIdeal.Read.val_main_v7, Cert.UpRefIdeal.Read.val_main_v8]
  blk_point [iblk, V, idx t]

end Cert.UpIdeal.Relu2

end
-- ==== Proof.ResidualLaw.lean ====
/- The scaled residual of a post-norm layer, as the kernel spells it and as the layer's mathematics does.

   The layer adds `α · ((z − μ) · r · g + b)` to a product, with `α = 8 ^ (1/4)` an f32 constant. The kernel multiplies the
   scale into the reciprocal deviation and into the bias first: `(z − μ) · (α · r) · g + α · b`. Over the extended reals the
   two are equal at every input, since `α` is a nonnegative real. -/
module

public import Idealize.ShloMosaic.PureOps.Ideal.Laws

@[expose] public section

noncomputable section

namespace Cert.ResidualLaw

open Idealize.ShloMosaic

/-- The f32 constant `1.68179286`, by which the residual is scaled. -/
abbrev alpha : EReal := Ideal.ofBits .f32 0x3FD744FD#32

/-- The scale is a real number. -/
theorem alpha_coe : alpha = (((14107901 : ℝ) / 8388608 : ℝ) : EReal) := by
  simp [alpha, Ideal.ofBits, Ideal.ieee, -EReal.coe_mul]; norm_num

/-- Multiplication by the scale distributes over every sum, infinite terms included. -/
theorem alpha_mul_add (x y : EReal) : alpha * (x + y) = alpha * x + alpha * y := by
  refine EReal.left_distrib_of_nonneg_of_ne_top ?_ ?_ x y
  · rw [alpha_coe]; exact EReal.coe_nonneg.mpr (by norm_num)
  · rw [alpha_coe]; exact EReal.coe_ne_top _

/-- The residual with the scale outside is the residual with the scale multiplied into the reciprocal deviation and the
bias. -/
theorem residual (d r g b : EReal) : alpha * (d * r * g + b) = d * (alpha * r) * g + alpha * b := by
  rw [alpha_mul_add, ← mul_assoc, mul_left_comm d alpha r, ← mul_assoc]

end Cert.ResidualLaw

end
-- ==== Proof.DownValue.lean ====
/- The value of the program Down: the feed-forward network's second product, taken sixteen blocks of the contracted axis
   one after another into the result's own block, which begins as the scaled residual. -/
module

public import proofs.«01_k».proof.Proof.Gen.DownIdeal.Value
public import proofs.«01_k».proof.Proof.Gen.DownRefIdeal.Read
public import proofs.«01_k».proof.Proof.ResidualLaw
public import Idealize.ShloMosaic.Lib.Pipeline.ValueKit
public import Idealize.ShloMosaic.Lib.Pointwise

@[expose] public section

set_option maxRecDepth 16384

noncomputable section

namespace Cert.DownIdeal.Resid

open Cert.DownIdeal Cert.DownIdeal.Gen Idealize.ShloMosaic Idealize.ShloMosaic.TcCoe Idealize.SL.Sem

variable (m : (ℓ : Loc nD τ sig) → Buf (Elt Ideal) ℓ) (ρ : Dev nD → PrngReg)

/-- The sum that the reference computes, on the kernel's own arguments. -/
abbrev G (c : Dev nD) : (⟨S16384x4096, .f32⟩ : BufTy).Contents (Elt Ideal) :=
  Cert.DownRefIdeal.Read.val_main_v17 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5))

/-- Where the seven windows stand at grid point `t`: row block `t / 32`, column block `t / 16 % 2`, and block `t % 16` of
the contracted axis. -/
theorem idx : ∀ t : Fin cfg0.N, win0_0.index t = ![t.val / 32, t.val % 16]
    ∧ win0_1.index t = ![t.val % 16, t.val / 16 % 2]
    ∧ win0_2.index t = ![t.val / 32, t.val / 16 % 2]
    ∧ win0_3.index t = ![t.val / 32, 0]
    ∧ win0_4.index t = ![0, t.val / 16 % 2]
    ∧ win0_5.index t = ![0, t.val / 16 % 2]
    ∧ win0_6.index t = ![t.val / 32, t.val / 16 % 2] :=
  (by decide +kernel : ∀ t : Fin grid0.N, win0_0.index t = ![t.val / 32, t.val % 16]
    ∧ win0_1.index t = ![t.val % 16, t.val / 16 % 2]
    ∧ win0_2.index t = ![t.val / 32, t.val / 16 % 2]
    ∧ win0_3.index t = ![t.val / 32, 0]
    ∧ win0_4.index t = ![0, t.val / 16 % 2]
    ∧ win0_5.index t = ![0, t.val / 16 % 2]
    ∧ win0_6.index t = ![t.val / 32, t.val / 16 % 2])

/-- The left operand's block at a point. -/
abbrev lblk (c : Dev nD) (t : Fin cfg0.N) : FVec Ideal S1024x1024 .bf16 := iblk m c 0 t

/-- The right operand's block at a point. -/
abbrev rblk (c : Dev nD) (t : Fin cfg0.N) : FVec Ideal S1024x2048 .bf16 := iblk m c 1 t

/-- The product of the two operands' blocks at point `n`, at an element of the result's block. -/
abbrev part (c : Dev nD) (n : ℕ) (y : S1024x2048.Idx) : EReal :=
  if h : n < cfg0.N then ∑ x : Fin 1024, lblk m c ⟨n, h⟩ (ix2 (y 0) x) * rblk m c ⟨n, h⟩ (ix2 x (y 1)) else 0

/-- What the body adds at a point to what the block held is the product of the point's blocks. -/
theorem step (c : Dev nD) (n : ℕ) (h : n < cfg0.N) (acc : Vec Ideal S1024x2048 .f32) (y : S1024x2048.Idx) :
    k0_pay2 acc (iblk m c 0 ⟨n, h⟩) (iblk m c 1 ⟨n, h⟩) y = acc y + part m c n y := by
  rw [part, dif_pos h]
  idx_vars y
  unfold_payloads
  pointwise

/-- After the run the result array is the reference's sum: the sixteen partial products are one product, and the block's
beginning is the residual by `ResidualLaw.residual`. -/
theorem final (c : Dev nD) : (dats m 0 c).arrAt 6 cfg0.N = G m c := by
  refine (dats m 0 c).arrAt_eq_of_covers 6 _ (by decide +kernel) fun t hf y => ?_
  have hm : t.val % 16 = 15 := (flush0_6 t).mp hf
  have ht : t.val < 512 := lt_of_lt_of_eq t.isLt N_0
  have hlt : ∀ s, s < 16 → 16 * (t.val / 16) + s < cfg0.N := fun s hs =>
    lt_of_lt_of_eq (by omega : 16 * (t.val / 16) + s < 512) N_0.symm
  have hb : 16 * (t.val / 16) < cfg0.N := hlt 0 (by omega)
  blk_simp
  rw [after0_6, Value.outsAt_6_eq]
  have e := Pipeline.accAt_add_apply (Value.reset6 m c) (Value.step6 m c)
    (k0_pay1 (iblk m c 3 ⟨_, hb⟩) (iblk m c 2 ⟨_, hb⟩) (iblk m c 4 ⟨_, hb⟩) (iblk m c 5 ⟨_, hb⟩))
    (part m c) (16 * (t.val / 16)) 15 (fun h i => step m c _ h _ i) (fun n h acc i _ _ => step m c n h acc i)
    (t.val % 16) (by omega) (hlt _ (by omega))
  rw [e, hm, Finset.sum_range, Finset.sum_congr rfl fun s _ => dif_pos (hlt s.val s.isLt)]
  idx_vars y
  unfold_payloads
  pointwise [G, Cert.DownRefIdeal.Read.val_main_v0, Cert.DownRefIdeal.Read.val_main_v1,
    Cert.DownRefIdeal.Read.val_main_v2, Cert.DownRefIdeal.Read.val_main_v3, Cert.DownRefIdeal.Read.val_main_v4,
    Cert.DownRefIdeal.Read.val_main_v5, Cert.DownRefIdeal.Read.val_main_v6, Cert.DownRefIdeal.Read.val_main_v7,
    Cert.DownRefIdeal.Read.val_main_v8, Cert.DownRefIdeal.Read.val_main_v9, Cert.DownRefIdeal.Read.val_main_v10,
    Cert.DownRefIdeal.Read.val_main_v11, Cert.DownRefIdeal.Read.val_main_cst, Cert.DownRefIdeal.Read.val_main_v12,
    Cert.DownRefIdeal.Read.val_main_v13, Cert.DownRefIdeal.Read.val_main_v14, Cert.DownRefIdeal.Read.val_main_v15,
    Cert.DownRefIdeal.Read.val_main_v16, Cert.DownRefIdeal.Read.val_main_v17]
  rw [ResidualLaw.residual]
  refine Ideal.add_congr ?_ ?_
  · blk_point [iblk, V, idx ⟨_, hb⟩, idx t]
  · refine Fin.sum_mul_add_congr fun s k hl => ?_
    have hs := hlt s.val s.isLt
    have h0 := s.isLt
    refine Ideal.mul_congr ?_ ?_
    · blk_ext [lblk, iblk, V, idx ⟨_, hs⟩, idx t]
    · blk_ext [rblk, iblk, V, idx ⟨_, hs⟩, idx t]

end Cert.DownIdeal.Resid

end
-- ==== Proof.OutValue.lean ====
/- The value of the program Out: the product of the merged mixers with the output weights, added to the scaled residual,
   which is normalized in the same call. -/
module

public import proofs.«01_k».proof.Proof.Gen.OutIdeal.Value
public import proofs.«01_k».proof.Proof.Gen.OutRefIdeal.Read
public import proofs.«01_k».proof.Proof.ResidualLaw
public import Idealize.ShloMosaic.Lib.Pipeline.ValueKit
public import Idealize.ShloMosaic.Lib.Pointwise

@[expose] public section

set_option maxRecDepth 16384

noncomputable section

namespace Cert.OutIdeal.Resid

open Cert.OutIdeal Cert.OutIdeal.Gen Idealize.ShloMosaic Idealize.ShloMosaic.TcCoe Idealize.SL.Sem

variable (m : (ℓ : Loc nD τ sig) → Buf (Elt Ideal) ℓ) (ρ : Dev nD → PrngReg)

/-- The sum that the reference computes, on the kernel's own arguments. -/
abbrev G (c : Dev nD) : (⟨S16384x4096, .f32⟩ : BufTy).Contents (Elt Ideal) :=
  Cert.OutRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Where the seven windows stand at grid point `t`: row block `t / 4` of the left operand, of the residual and of its
statistics, column block `t % 4` of the weights, of the scale and of the bias. -/
theorem idx : ∀ t : Fin cfg0.N, win0_0.index t = ![t.val / 4, 0]
    ∧ win0_1.index t = ![0, t.val % 4]
    ∧ win0_2.index t = ![t.val / 4, t.val % 4]
    ∧ win0_3.index t = ![t.val / 4, 0]
    ∧ win0_4.index t = ![0, t.val % 4]
    ∧ win0_5.index t = ![0, t.val % 4]
    ∧ win0_6.index t = ![t.val / 4, t.val % 4] :=
  (by decide +kernel : ∀ t : Fin grid0.N, win0_0.index t = ![t.val / 4, 0]
    ∧ win0_1.index t = ![0, t.val % 4]
    ∧ win0_2.index t = ![t.val / 4, t.val % 4]
    ∧ win0_3.index t = ![t.val / 4, 0]
    ∧ win0_4.index t = ![0, t.val % 4]
    ∧ win0_5.index t = ![0, t.val % 4]
    ∧ win0_6.index t = ![t.val / 4, t.val % 4])

/-- After the run the result array is the reference's sum: block by block the same product, and the same residual by
`ResidualLaw.residual`. -/
theorem final (c : Dev nD) : (dats m 0 c).arrAt 6 cfg0.N = G m c := by
  refine (dats m 0 c).arrAt_eq_of_covers 6 _ (by decide +kernel) fun t hf y => ?_
  blk_simp
  rw [after0_6]
  frame_out
  idx_vars y
  unfold_payloads
  pointwise [G, Cert.OutRefIdeal.Read.val_main_v0, Cert.OutRefIdeal.Read.val_main_v1,
    Cert.OutRefIdeal.Read.val_main_v2, Cert.OutRefIdeal.Read.val_main_v3, Cert.OutRefIdeal.Read.val_main_v4,
    Cert.OutRefIdeal.Read.val_main_v5, Cert.OutRefIdeal.Read.val_main_v6, Cert.OutRefIdeal.Read.val_main_v7,
    Cert.OutRefIdeal.Read.val_main_v8, Cert.OutRefIdeal.Read.val_main_v9, Cert.OutRefIdeal.Read.val_main_v10,
    Cert.OutRefIdeal.Read.val_main_v11, Cert.OutRefIdeal.Read.val_main_cst, Cert.OutRefIdeal.Read.val_main_v12,
    Cert.OutRefIdeal.Read.val_main_v13, Cert.OutRefIdeal.Read.val_main_v14, Cert.OutRefIdeal.Read.val_main_v15,
    Cert.OutRefIdeal.Read.val_main_v16, Cert.OutRefIdeal.Read.val_main_v17]
  rw [ResidualLaw.residual]
  blk_point [iblk, V, idx t]

end Cert.OutIdeal.Resid

end
-- ==== Proof.InBValue.lean ====
/- The value of the program InB: the projection of the tokens onto the 4608 columns that are read as bf16. -/
module

public import proofs.«01_k».proof.Proof.Gen.InBIdeal.Value
public import proofs.«01_k».proof.Proof.Gen.InBRefIdeal.Read
public import Idealize.ShloMosaic.Lib.Pipeline.ValueKit
public import Idealize.ShloMosaic.Lib.Pointwise

@[expose] public section

set_option maxRecDepth 16384

noncomputable section

namespace Cert.InBIdeal.Proj

open Cert.InBIdeal Cert.InBIdeal.Gen Idealize.ShloMosaic Idealize.ShloMosaic.TcCoe Idealize.SL.Sem

variable (m : (ℓ : Loc nD τ sig) → Buf (Elt Ideal) ℓ) (ρ : Dev nD → PrngReg)

/-- The product that the reference computes, on the kernel's own arguments. -/
abbrev G (c : Dev nD) : (⟨S16384x4608, .bf16⟩ : BufTy).Contents (Elt Ideal) :=
  Cert.InBRefIdeal.Read.val_main_v5 (F := Ideal) (m ((c : Thread nD τ).loc main_arg0))
    (m ((c : Thread nD τ).loc main_arg1))

/-- Where the three windows stand at grid point `t`: row block `t / 6` of the tokens and of the result, column block
`t % 6` of the weights of layer 1 and of the result. -/
theorem idx : ∀ t : Fin cfg0.N, win0_0.index t = ![t.val / 6, 0] ∧ win0_1.index t = ![1, 0, t.val % 6]
    ∧ win0_2.index t = ![t.val / 6, t.val % 6] :=
  (by decide +kernel : ∀ t : Fin grid0.N, win0_0.index t = ![t.val / 6, 0] ∧ win0_1.index t = ![1, 0, t.val % 6]
    ∧ win0_2.index t = ![t.val / 6, t.val % 6])

/-- After the run the result array is the reference's product. -/
theorem final (c : Dev nD) : (dats m 0 c).arrAt 2 cfg0.N = G m c := by
  refine (dats m 0 c).arrAt_eq_of_covers 2 _ (by decide +kernel) fun t hf y => ?_
  blk_simp
  rw [after0_2]
  frame_out
  idx_vars y
  unfold_payloads
  pointwise [G, Cert.InBRefIdeal.Read.val_main_v5, Cert.InBRefIdeal.Read.val_main_v4, Cert.InBRefIdeal.Read.val_main_v0,
    Cert.InBRefIdeal.Read.val_main_v1, Cert.InBRefIdeal.Read.val_main_v2, Cert.InBRefIdeal.Read.val_main_v3]
  blk_point [iblk, V, idx t]

end Cert.InBIdeal.Proj

end
-- ==== Proof.InFValue.lean ====
/- The value of the program InF: the projection of the tokens onto the 6144 columns that are read as f32. -/
module

public import proofs.«01_k».proof.Proof.Gen.InFIdeal.Value
public import proofs.«01_k».proof.Proof.Gen.InFRefIdeal.Read
public import Idealize.ShloMosaic.Lib.Pipeline.ValueKit
public import Idealize.ShloMosaic.Lib.Pointwise

@[expose] public section

set_option maxRecDepth 16384

noncomputable section

namespace Cert.InFIdeal.Proj

open Cert.InFIdeal Cert.InFIdeal.Gen Idealize.ShloMosaic Idealize.ShloMosaic.TcCoe Idealize.SL.Sem

variable (m : (ℓ : Loc nD τ sig) → Buf (Elt Ideal) ℓ) (ρ : Dev nD → PrngReg)

/-- The product that the reference computes, on the kernel's own arguments. -/
abbrev G (c : Dev nD) : (⟨S16384x6144, .f32⟩ : BufTy).Contents (Elt Ideal) :=
  Cert.InFRefIdeal.Read.val_main_v4 (F := Ideal) (m ((c : Thread nD τ).loc main_arg0))
    (m ((c : Thread nD τ).loc main_arg1))

/-- Where the three windows stand at grid point `t`: row block `t / 6` of the tokens and of the result, column block
`t % 6` of the weights of layer 1 and of the result. -/
theorem idx : ∀ t : Fin cfg0.N, win0_0.index t = ![t.val / 6, 0] ∧ win0_1.index t = ![1, 0, t.val % 6]
    ∧ win0_2.index t = ![t.val / 6, t.val % 6] :=
  (by decide +kernel : ∀ t : Fin grid0.N, win0_0.index t = ![t.val / 6, 0] ∧ win0_1.index t = ![1, 0, t.val % 6]
    ∧ win0_2.index t = ![t.val / 6, t.val % 6])

/-- After the run the result array is the reference's product. -/
theorem final (c : Dev nD) : (dats m 0 c).arrAt 2 cfg0.N = G m c := by
  refine (dats m 0 c).arrAt_eq_of_covers 2 _ (by decide +kernel) fun t hf y => ?_
  blk_simp
  rw [after0_2]
  frame_out
  idx_vars y
  unfold_payloads
  pointwise [G, Cert.InFRefIdeal.Read.val_main_v4, Cert.InFRefIdeal.Read.val_main_v0, Cert.InFRefIdeal.Read.val_main_v1,
    Cert.InFRefIdeal.Read.val_main_v2, Cert.InFRefIdeal.Read.val_main_v3]
  blk_point [iblk, V, idx t]

end Cert.InFIdeal.Proj

end
-- ==== Proof.NormValue.lean ====
/- The value of the program Norm: the layer norm of each token, and the two statistics it is made with. -/
module

public import proofs.«01_k».proof.Proof.Gen.NormIdeal.Value
public import proofs.«01_k».proof.Proof.Gen.NormRefIdeal.Read
public import Idealize.ShloMosaic.Lib.Pipeline.ValueKit
public import Idealize.ShloMosaic.Lib.Pointwise

@[expose] public section

set_option maxRecDepth 16384

noncomputable section

namespace Cert.NormIdeal.LayerNorm

open Cert.NormIdeal Cert.NormIdeal.Gen Idealize.ShloMosaic Idealize.ShloMosaic.TcCoe Idealize.SL.Sem

variable (m : (ℓ : Loc nD τ sig) → Buf (Elt Ideal) ℓ) (ρ : Dev nD → PrngReg)

/-- The normalized tokens that the reference computes, on the kernel's own arguments. -/
abbrev G (c : Dev nD) : (⟨S16384x4096, .bf16⟩ : BufTy).Contents (Elt Ideal) :=
  Cert.NormRefIdeal.Read.val_main_v26 (F := Ideal) (m ((c : Thread nD τ).loc main_arg0)) (m ((c : Thread nD τ).loc main_arg1)) (m ((c : Thread nD τ).loc main_arg2))

/-- The statistics that the reference computes: each token's mean, its reciprocal deviation, and zeros. -/
abbrev H (c : Dev nD) : (⟨S16384x128, .f32⟩ : BufTy).Contents (Elt Ideal) :=
  Cert.NormRefIdeal.Read.val_main_v25 (F := Ideal) (m ((c : Thread nD τ).loc main_arg0))

/-- Where the windows stand at grid point `t`: rows `256 t` onward; the gain and the bias are one block each. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, win0_0.index t = ![t.val, 0]
    ∧ win0_1.index t = ![0, 0]
    ∧ win0_2.index t = ![0, 0]
    ∧ win0_3.index t = ![t.val, 0]
    ∧ win0_4.index t = ![t.val, 0])

/-- Lane 0 holds the first value, lane 1 the second, the others zero. -/
theorem lanes (y : Fin 128) (a b : EReal) :
    Scalar.select (IntOp.cmpi CmpIPredicate.eq (BitVec.ofNat 32 y.val) 0#32) a
      (Scalar.select (IntOp.cmpi CmpIPredicate.eq (BitVec.ofNat 32 y.val) 1#32) b 0)
      = if y.val < 1 then a else if y.val - 1 < 1 then b else 0 := by
  have h0 : ∀ y : Fin 128, IntOp.cmpi CmpIPredicate.eq (BitVec.ofNat 32 y.val) 0#32 = BitVec.ofBool (decide (y.val < 1)) := by
    decide +kernel
  have h1 : ∀ y : Fin 128, IntOp.cmpi CmpIPredicate.eq (BitVec.ofNat 32 y.val) 1#32 = BitVec.ofBool (decide (y.val = 1)) := by
    decide +kernel
  rw [h0, h1]
  by_cases c0 : y.val < 1
  · simp [Scalar.select, c0]
  · by_cases c1 : y.val = 1
    · simp [Scalar.select, c1]
    · have c2 : ¬ y.val - 1 < 1 := by omega
      simp [Scalar.select, c0, c1, c2]

/-- After the run the first result array is the reference's layer norm. -/
theorem final (c : Dev nD) : (dats m 0 c).arrAt 3 cfg0.N = G m c := by
  refine (dats m 0 c).arrAt_eq_of_covers 3 _ (by decide +kernel) fun t hf y => ?_
  blk_simp
  rw [after0_3]
  frame_out
  idx_vars y
  unfold_payloads
  open Cert.NormRefIdeal.Read in pointwise [G,
    val_main_cst, val_main_v0, val_main_v1, val_main_cst_0, val_main_v2, val_main_v3, val_main_v4, val_main_v5,
    val_main_v6, val_main_cst_1, val_main_v7, val_main_v8, val_main_cst_2, val_main_v9, val_main_v10,
    val_main_cst_3, val_main_v11, val_main_v12, val_main_v13, val_main_v14, val_main_v15, val_main_v16,
    val_main_v17, val_main_v18, val_main_v19, val_main_v20, val_main_v21, val_main_v22, val_main_v23,
    val_main_cst_4, val_main_v24, val_main_v25, val_main_v26]
  blk_point [iblk, V, idx t]

/-- After the run the second result array is the statistics. -/
theorem final_side (c : Dev nD) : (dats m 0 c).arrAt 4 cfg0.N = H m c := by
  refine (dats m 0 c).arrAt_eq_of_covers 4 _ (by decide +kernel) fun t hf y => ?_
  blk_simp
  rw [after0_4]
  frame_out
  idx_vars y
  unfold_payloads
  open Cert.NormRefIdeal.Read in pointwise [H,
    val_main_cst, val_main_v0, val_main_v1, val_main_cst_0, val_main_v2, val_main_v3, val_main_v4, val_main_v5,
    val_main_v6, val_main_cst_1, val_main_v7, val_main_v8, val_main_cst_2, val_main_v9, val_main_v10,
    val_main_cst_3, val_main_v11, val_main_v12, val_main_v13, val_main_v14, val_main_v15, val_main_v16,
    val_main_v17, val_main_v18, val_main_v19, val_main_v20, val_main_v21, val_main_v22, val_main_v23,
    val_main_cst_4, val_main_v24, val_main_v25, val_main_v26]
  have hl : ((((View.whole main_v2_1).slice (win0_4.rect t)).emb (ix2 y0 y1) 1 : Fin _) : ℕ) = y1.val := by
    blk_simp [idx t]
  rw [lanes]
  simp only [hl, dite_eq_ite]
  blk_point [iblk, V, idx t]

end Cert.NormIdeal.LayerNorm

end
-- ==== Proof.LastValue.lean ====
/- The value of the program Last: the layer norm of each token, which is the result of the trunk. -/
module

public import proofs.«01_k».proof.Proof.Gen.LastIdeal.Value
public import proofs.«01_k».proof.Proof.Gen.LastRefIdeal.Read
public import Idealize.ShloMosaic.Lib.Pipeline.ValueKit
public import Idealize.ShloMosaic.Lib.Pointwise

@[expose] public section

set_option maxRecDepth 16384

noncomputable section

namespace Cert.LastIdeal.LayerNorm

open Cert.LastIdeal Cert.LastIdeal.Gen Idealize.ShloMosaic Idealize.ShloMosaic.TcCoe Idealize.SL.Sem

variable (m : (ℓ : Loc nD τ sig) → Buf (Elt Ideal) ℓ) (ρ : Dev nD → PrngReg)

/-- The normalized tokens that the reference computes, on the kernel's own arguments. -/
abbrev G (c : Dev nD) : (⟨S16384x4096, .f32⟩ : BufTy).Contents (Elt Ideal) :=
  Cert.LastRefIdeal.Read.val_main_v23 (F := Ideal) (m ((c : Thread nD τ).loc main_arg0)) (m ((c : Thread nD τ).loc main_arg1)) (m ((c : Thread nD τ).loc main_arg2))

/-- Where the windows stand at grid point `t`: rows `256 t` onward; the gain and the bias are one block each. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, win0_0.index t = ![t.val, 0]
    ∧ win0_1.index t = ![0, 0]
    ∧ win0_2.index t = ![0, 0]
    ∧ win0_3.index t = ![t.val, 0])

/-- After the run the result array is the reference's layer norm. -/
theorem final (c : Dev nD) : (dats m 0 c).arrAt 3 cfg0.N = G m c := by
  refine (dats m 0 c).arrAt_eq_of_covers 3 _ (by decide +kernel) fun t hf y => ?_
  blk_simp
  rw [after0_3]
  frame_out
  idx_vars y
  unfold_payloads
  open Cert.LastRefIdeal.Read in pointwise [G,
    val_main_cst, val_main_v0, val_main_v1, val_main_cst_0, val_main_v2, val_main_v3, val_main_v4, val_main_v5,
    val_main_v6, val_main_cst_1, val_main_v7, val_main_v8, val_main_cst_2, val_main_v9, val_main_v10, val_main_v11,
    val_main_v12, val_main_cst_3, val_main_v13, val_main_v14, val_main_v15, val_main_v16, val_main_v17,
    val_main_v18, val_main_v19, val_main_v20, val_main_v21, val_main_v22, val_main_v23]
  blk_point [iblk, V, idx t]

end Cert.LastIdeal.LayerNorm

end
-- ==== Proof.FoxStrip.lean ====
/- One strip of 64 query rows against one key block, as the attention kernel computes it: the scores, the running
   reference exponent, the rescaled accumulator and the weights, each read at an index. -/
module

public import proofs.«01_k».proof.Proof.Gen.FoxIdeal.Value
public import Idealize.ShloMosaic.Lib.Pipeline.ValueKit
public import Idealize.ShloMosaic.Lib.Pointwise

@[expose] public section

set_option maxRecDepth 16384

noncomputable section

namespace Cert.FoxIdeal.Strip

open Cert.FoxIdeal Cert.FoxIdeal.Gen Idealize.ShloMosaic Idealize.ShloMosaic.TcCoe Idealize.SL.Sem

/-- The named constant by which the raw scores are multiplied. -/
abbrev k1 : EReal := Named.named (F := Ideal) κ "scale_log2e" (φ := .f32) 0x3E0293EE#32

/-- The word of the empty maximum is −∞. -/
theorem neg_inf : Ideal.ofBits FTy.f32 4286578688#32 = ⊥ := by
  simp [Ideal.ofBits, Ideal.ieee]

variable (o : ℕ) (hs : S512x512.Slices ![o, 0] S64x512) (c2 : FVec Ideal S1x512 .f32) (raw : FVec Ideal S512x512 .f32)
  (mo : Vec Ideal S1x64x128 .f32) (ao : Vec Ideal S1x64x256 .f32)

/-- A strip's scores. -/
def score : FVec Ideal S64x512 .f32 :=
  subf (mulf (extractStridedSlice S64x512 ![o, 0] raw hs) (broadcast S64x512 k1)) (broadcastTo S64x512 c2 broadcasts_S1x512_S64x512)

/-- The strip's new reference exponents. -/
def top : FVec Ideal S64x128 .f32 :=
  maximumf (shapeCast S64x128 mo shapeCasts_S1x64x128_S64x128)
    (broadcastTo S64x128 (shapeCast S64x1 (shapeCast S64x1
      (multiReduction .maximumf [1] S64 (score o hs c2 raw) 0xFF800000#32 reduces_S64x512_S64 (.inl rfl) rfl)
      shapeCasts_S64_S64x1) shapeCasts_S64x1_S64x1) broadcasts_S64x1_S64x128)

/-- They as they are stored. -/
def topPay : FVec Ideal S1x64x128 .f32 := shapeCast S1x64x128 (top o hs c2 raw mo) shapeCasts_S64x128_S1x64x128

/-- The rescaled accumulator as it is stored. -/
def accPay : FVec Ideal S1x64x256 .f32 :=
  shapeCast S1x64x256 (mulf (shapeCast S64x256 ao shapeCasts_S1x64x256_S64x256)
    (concatenate S64x256 1 [⟨S64x128, exp2 (subf (shapeCast S64x128 mo shapeCasts_S1x64x128_S64x128) (top o hs c2 raw mo))⟩,
      ⟨S64x128, exp2 (subf (shapeCast S64x128 mo shapeCasts_S1x64x128_S64x128) (top o hs c2 raw mo))⟩]
      concatenates_S64x128_S64x128_S64x256_d1)) shapeCasts_S64x256_S1x64x256

/-- The weights as they are stored. -/
def wPay : FVec Ideal S1x64x512 .bf16 :=
  shapeCast S1x64x512 (truncf .bf16 (exp2 (subf (score o hs c2 raw)
    (concatenate S64x512 1 [⟨S64x128, top o hs c2 raw mo⟩, ⟨S64x128, top o hs c2 raw mo⟩, ⟨S64x128, top o hs c2 raw mo⟩,
      ⟨S64x128, top o hs c2 raw mo⟩] concatenates_S64x128_S64x128_S64x128_S64x128_S64x512_d1))) bitsLt_bf16_f32) shapeCasts_S64x512_S1x64x512

theorem score_at (r : Fin 64) (x : Fin 512) (ho : o + r.val < 512) :
    score o hs c2 raw (ix2 r x) = raw (ix2 ⟨o + r.val, ho⟩ x) * k1 - c2 (ix2 0 x) := by
  pointwise [score]

theorem top_at (r : Fin 64) (l : Fin 128) : top o hs c2 raw mo (ix2 r l)
    = max (mo (ix3 0 r l)) (Finset.fold max ⊥ (fun x => score o hs c2 raw (ix2 r x)) Finset.univ) := by
  pointwise [top]
  rw [neg_inf]

/-- The lane in which a column finds its row's reference exponent. -/
def lane {n : ℕ} (d : Fin n) : Fin 128 := ⟨d.val % 128, Nat.mod_lt _ (by decide)⟩

theorem lane_val {n : ℕ} {d d' : Fin n} (h : d.val = d'.val) : (lane d).val = (lane d').val :=
  congrArg (· % 128) h

theorem acc_at (r : Fin 64) (d : Fin 256) : accPay o hs c2 raw mo ao (ix3 0 r d)
    = ao (ix3 0 r d) * Ideal.exp2 (mo (ix3 0 r (lane d)) - top o hs c2 raw mo (ix2 r (lane d))) := by
  pointwise [accPay]
  have hd := d.isLt
  have e : ∀ (n : ℕ) (hn : n < 128), n = d.val % 128 → (⟨n, hn⟩ : Fin 128) = lane d := fun n hn h => Fin.ext h
  split_ifs <;> first | contradiction | (rw [e _ _ (by omega)]; rfl)

theorem w_at (r : Fin 64) (x : Fin 512) : wPay o hs c2 raw mo (ix3 0 r x)
    = Ideal.exp2 (score o hs c2 raw (ix2 r x) - top o hs c2 raw mo (ix2 r (lane x))) := by
  pointwise [wPay]
  have hd := x.isLt
  have e : ∀ (n : ℕ) (hn : n < 128), n = x.val % 128 → (⟨n, hn⟩ : Fin 128) = lane x := fun n hn h => Fin.ext h
  split_ifs with h h h <;> (rw [e _ _ (by omega)]; rfl)

/-! ## The blocks that the stores of one key block leave -/

variable (M : S4x512x128.Idx → EReal) (A : S4x512x256.Idx → EReal) (sc : ℕ → Fin 512 → Fin 512 → EReal)

/-- The reference exponents after a further key block. -/
def newTop : S4x512x128.Idx → EReal := fun y =>
  max (M y) (Finset.fold max ⊥ (fun x => sc (y 0).val (y 1) x) Finset.univ)

/-- The accumulator rescaled to them. -/
def newAcc : S4x512x256.Idx → EReal := fun y =>
  A y * Ideal.exp2 (M (ix3 (y 0) (y 1) (lane (y 2))) - newTop M sc (ix3 (y 0) (y 1) (lane (y 2))))

/-- The key block's weights. -/
def newW : S4x512x512.Idx → EReal := fun y =>
  Ideal.exp2 (sc (y 0).val (y 1) (y 2) - newTop M sc (ix3 (y 0) (y 1) (lane (y 2))))

section
variable {h : ℕ} (hsc : ∀ r x : Fin 512, raw (ix2 r x) * k1 - c2 (ix2 0 x) = sc h r x)
include hsc

theorem top_block_at (inb : ∀ a, ![h, o, 0] a + S1x64x128.size a ≤ S4x512x128.size a) (r : Fin 64) (l : Fin 128)
    (y : S4x512x128.Idx) (h0 : (y 0).val = h) (h1 : (y 1).val = o + r.val) (h2 : (y 2).val = l.val) :
    top o hs c2 raw (View.ld M (Rect.unit (s := S4x512x128) ![h, o, 0] S1x64x128.size inb)) (ix2 r l) = newTop M sc y := by
  rw [top_at]
  unfold newTop
  congr 1
  · refine View.ld_unit_apply_of _ _ _ _ _ _ fun a => ?_
    fin_cases a
    · simpa using h0
    · simpa using h1
    · simpa using h2
  · refine congrArg (fun f => Finset.fold max ⊥ f Finset.univ) (funext fun x => ?_)
    have ho : o + r.val < 512 := h1 ▸ (y 1).isLt
    rw [score_at _ _ _ _ _ _ ho, hsc, h0]
    congr 1
    exact Fin.ext h1.symm

theorem top_block (inb : ∀ a, ![h, o, 0] a + S1x64x128.size a ≤ S4x512x128.size a) (pay : S1x64x128.Idx → EReal)
    (e : pay = topPay o hs c2 raw (View.ld M (Rect.unit (s := S4x512x128) ![h, o, 0] S1x64x128.size inb))) (x : S1x64x128.Idx) :
    pay x = newTop M sc ((Rect.unit (s := S4x512x128) ![h, o, 0] S1x64x128.size inb).emb x) := by
  subst e
  idx_vars x
  pointwise [topPay]
  refine top_block_at o hs c2 raw M sc hsc inb _ _ _ ?_ ?_ ?_
  all_goals (refine (Rect.idx_unit_val _ _ _ _ _).trans ?_; simp)

theorem acc_block (inb : ∀ a, ![h, o, 0] a + S1x64x128.size a ≤ S4x512x128.size a)
    (inb' : ∀ a, ![h, o, 0] a + S1x64x256.size a ≤ S4x512x256.size a) (pay : S1x64x256.Idx → EReal)
    (e : pay = accPay o hs c2 raw (View.ld M (Rect.unit (s := S4x512x128) ![h, o, 0] S1x64x128.size inb))
      (View.ld A (Rect.unit (s := S4x512x256) ![h, o, 0] S1x64x256.size inb'))) (x : S1x64x256.Idx) :
    pay x = newAcc M A sc ((Rect.unit (s := S4x512x256) ![h, o, 0] S1x64x256.size inb').emb x) := by
  subst e
  idx_vars x
  have e1 : x0 = 0 := Subsingleton.elim _ _
  subst e1
  rw [acc_at]
  unfold newAcc
  congr 1
  congr 1
  congr 1
  · refine View.ld_unit_apply_of _ _ _ _ _ _ fun a => ?_
    fin_cases a
    · exact Rect.idx_unit_val _ _ _ _ _
    · exact Rect.idx_unit_val _ _ _ _ _
    · exact (lane_val ((Rect.idx_unit_val _ _ _ _ _).trans (Nat.zero_add _))).trans (Nat.zero_add _).symm
  · refine top_block_at o hs c2 raw M sc hsc inb _ _ _ ?_ ?_ ?_
    · refine (Rect.idx_unit_val _ _ _ _ _).trans ?_; simp
    · refine (Rect.idx_unit_val _ _ _ _ _).trans ?_; simp
    · exact lane_val ((Rect.idx_unit_val _ _ _ _ _).trans (Nat.zero_add _))

theorem w_block (inb : ∀ a, ![h, o, 0] a + S1x64x128.size a ≤ S4x512x128.size a)
    (inb' : ∀ a, ![h, o, 0] a + S1x64x512.size a ≤ S4x512x512.size a) (pay : S1x64x512.Idx → EReal)
    (e : pay = wPay o hs c2 raw (View.ld M (Rect.unit (s := S4x512x128) ![h, o, 0] S1x64x128.size inb))) (x : S1x64x512.Idx) :
    pay x = newW M sc ((Rect.unit (s := S4x512x512) ![h, o, 0] S1x64x512.size inb').emb x) := by
  subst e
  idx_vars x
  have e1 : x0 = 0 := Subsingleton.elim _ _
  subst e1
  rw [w_at]
  unfold newW
  congr 1
  congr 1
  · have ho : o + x1.val < 512 := by
      have h1 : o + 64 ≤ 512 := inb' 1
      omega
    have e0 : ((Rect.unit (s := S4x512x512) ![h, o, 0] S1x64x512.size inb').emb (ix3 0 x1 x2) 0).val = h :=
      (Rect.idx_unit_val _ _ _ _ _).trans (by simp)
    rw [score_at _ _ _ _ _ _ ho, hsc]
    refine (congr (congr (congrArg sc e0) ?_) ?_).symm
    · exact Fin.ext (Rect.idx_unit_val _ _ _ _ _)
    · exact Fin.ext ((Rect.idx_unit_val _ _ _ _ _).trans (Nat.zero_add _))
  · refine top_block_at o hs c2 raw M sc hsc inb _ _ _ ?_ ?_ ?_
    · refine (Rect.idx_unit_val _ _ _ _ _).trans ?_; simp
    · refine (Rect.idx_unit_val _ _ _ _ _).trans ?_; simp
    · exact lane_val ((Rect.idx_unit_val _ _ _ _ _).trans (Nat.zero_add _))
end

/-! ## The scores' parts and the product with the values -/

/-- The named constant by which the log decay is multiplied. -/
abbrev k2 : EReal := Named.named (F := Ideal) κ "log2e" (φ := .f32) 0x3FB8AA3B#32

/-- The key block's log decays in the kernel's exponents. -/
def decay (v : Vec Ideal S1x1x512 .f32) : FVec Ideal S1x512 .f32 :=
  mulf (shapeCast S1x512 v shapeCasts_S1x1x512_S1x512) (broadcast S1x512 k2)

theorem decay_at (v : Vec Ideal S1x1x512 .f32) (x : Fin 512) : decay v (ix2 0 x) = v (ix3 0 0 x) * k2 := by
  pointwise [decay]

/-- The products of the queries with the block's keys. -/
def dots (q k : FVec Ideal S512x128 .bf16) : FVec Ideal S512x512 .f32 :=
  matmul dot_S512x128_S512x128_S512x512_1_1_0_0_n_n none q k (constant S512x512 .f32 0x00000000#32)

theorem dots_at (q k : FVec Ideal S512x128 .bf16) (r x : Fin 512) :
    dots q k (ix2 r x) = ∑ d : Fin 128, q (ix2 r d) * k (ix2 x d) := by
  pointwise [dots]

/-- The product of the weights with the block's values. -/
def prods (p : FVec Ideal S1x512x512 .bf16) (v : FVec Ideal S1x512x256 .bf16) : FVec Ideal S512x256 .f32 :=
  matmul dot_S512x512_S512x256_S512x256_1_0_0_1_n_n none (shapeCast S512x512 p shapeCasts_S1x512x512_S512x512)
    (shapeCast S512x256 v shapeCasts_S1x512x256_S512x256) (constant S512x256 .f32 0x00000000#32)

/-- It added to the accumulator. -/
def sumPay (p : FVec Ideal S1x512x512 .bf16) (v : FVec Ideal S1x512x256 .bf16) (a : Vec Ideal S1x512x256 .f32) :
    FVec Ideal S1x512x256 .f32 :=
  shapeCast S1x512x256 (addf (shapeCast S512x256 a shapeCasts_S1x512x256_S512x256) (prods p v)) shapeCasts_S512x256_S1x512x256

/-- It as the first block stores it. -/
def firstPay (p : FVec Ideal S1x512x512 .bf16) (v : FVec Ideal S1x512x256 .bf16) : FVec Ideal S1x512x256 .f32 :=
  shapeCast S1x512x256 (prods p v) shapeCasts_S512x256_S1x512x256

theorem sum_at (p : FVec Ideal S1x512x512 .bf16) (v : FVec Ideal S1x512x256 .bf16) (a : Vec Ideal S1x512x256 .f32)
    (r : Fin 512) (d : Fin 256) :
    sumPay p v a (ix3 0 r d) = a (ix3 0 r d) + ∑ x : Fin 512, p (ix3 0 r x) * v (ix3 0 x d) := by
  pointwise [sumPay, prods]

theorem first_at (p : FVec Ideal S1x512x512 .bf16) (v : FVec Ideal S1x512x256 .bf16) (r : Fin 512) (d : Fin 256) :
    firstPay p v (ix3 0 r d) = ∑ x : Fin 512, p (ix3 0 r x) * v (ix3 0 x d) := by
  pointwise [firstPay, prods]

/-- A load of the score operands gives the scores of the key block. -/
theorem scores_of (q k : FVec Ideal S512x128 .bf16) (v : Vec Ideal S1x1x512 .f32) (h : ℕ)
    (hsc : ∀ r x : Fin 512, (∑ d : Fin 128, q (ix2 r d) * k (ix2 x d)) * k1 - v (ix3 0 0 x) * k2 = sc h r x) (r x : Fin 512) :
    dots q k (ix2 r x) * k1 - decay v (ix2 0 x) = sc h r x := by
  rw [dots_at, decay_at, hsc]

end Cert.FoxIdeal.Strip
-- ==== Proof.FoxMask.lean ====
/- The block of keys that meets the causal mask, as the attention kernel computes it: strips of 64 query rows whose
   number of key columns grows with the row, the columns beyond them holding weight zero. -/
module

public import proofs.«01_k».proof.Proof.FoxStrip
public import Idealize.ShloMosaic.Lib.ValueLayout

@[expose] public section

set_option maxRecDepth 16384

noncomputable section

namespace Cert.FoxIdeal.Strip

open Cert.FoxIdeal Cert.FoxIdeal.Gen Idealize.ShloMosaic Idealize.ShloMosaic.TcCoe Idealize.SL.Sem

/-- The shape of a matrix with `n` rows and `w` columns. -/
abbrev S2 (n w : ℕ) : Shape := ⟨2, ![n, w]⟩
/-- The same with a leading axis of one. -/
abbrev S3 (n w : ℕ) : Shape := ⟨3, ![1, n, w]⟩

section
variable (w o : ℕ) (hs : S512x512.Slices ![o, 0] (S2 64 w)) (hb : (S2 1 w).Broadcasts (S2 64 w))
  (hi0 : (S2 64 w).Iotas .tc 32 [0]) (hi1 : (S2 64 w).Iotas .tc 32 [1])
  (hr : (S2 64 w).Reduces [1] S64) (hp : (S2 64 w).ShapeCasts (S3 64 w))
  (cw : FVec Ideal (S2 1 w) .f32) (raw : FVec Ideal S512x512 .f32)

/-- A strip's scores under the causal mask. -/
def masked : FVec Ideal (S2 64 w) .f32 :=
  select (cmpi .sle (iota .tc (S2 64 w) 32 [1] hi1)
      (addi (iota .tc (S2 64 w) 32 [0] hi0) (broadcast (S2 64 w) (BitVec.ofNat 32 o))))
    (subf (mulf (extractStridedSlice (S2 64 w) ![o, 0] raw hs) (broadcast (S2 64 w) k1)) (broadcastTo (S2 64 w) cw hb))
    (broadcast (S2 64 w) (Scalar.ofBits .f32 0xFF800000#32))

/-- The largest score of each row, repeated along the lanes. -/
def rowTop (s : FVec Ideal (S2 64 w) .f32) : FVec Ideal S64x128 .f32 :=
  broadcastTo S64x128 (shapeCast S64x1 (shapeCast S64x1
      (multiReduction .maximumf [1] S64 s 0xFF800000#32 hr (.inl rfl) rfl)
      shapeCasts_S64_S64x1) shapeCasts_S64x1_S64x1) broadcasts_S64x1_S64x128

/-- It as it is stored. -/
def rowTopPay (s : FVec Ideal (S2 64 w) .f32) : FVec Ideal S1x64x128 .f32 :=
  shapeCast S1x64x128 (rowTop w hr s) shapeCasts_S64x128_S1x64x128

/-- The weights as they are stored. -/
def rowWPay (s t : FVec Ideal (S2 64 w) .f32) : FVec Ideal (S3 64 w) .bf16 :=
  shapeCast (S3 64 w) (truncf .bf16 (exp2 (subf s t)) bitsLt_bf16_f32) hp

/-- The comparison with the mask's edge decides by the numbers themselves. -/
theorem edge (x r o : ℕ) (hx : x < 512) (hr : r + o < 1024) (a b : EReal) :
    Scalar.select (IntOp.cmpi .sle (BitVec.ofNat 32 x) (IntOp.addi (BitVec.ofNat 32 r) (BitVec.ofNat 32 o))) a b
      = if x ≤ o + r then a else b := by
  have e : IntOp.addi (BitVec.ofNat 32 r) (BitVec.ofNat 32 o) = BitVec.ofNat 32 (r + o) := (BitVec.ofNat_add ..).symm
  rw [e, WordCmp.cmpi_sle_ofNat (by norm_num; omega) (by norm_num; omega)]
  by_cases h : x ≤ o + r
  · rw [if_pos h, decide_eq_true (by omega)]; rfl
  · rw [if_neg h, decide_eq_false (by omega)]; rfl

theorem masked_at (hw1 : 1 < w) (hw : w ≤ 512) (r : Fin 64) (x : Fin w) (ho : o + r.val < 512) :
    masked w o hs hb hi0 hi1 cw raw (ix2 r x)
      = if x.val ≤ o + r.val then raw (ix2 ⟨o + r.val, ho⟩ ⟨x.val, by omega⟩) * k1 - cw (ix2 0 x) else ⊥ := by
  pointwise [masked]
  rw [edge _ _ _ (by omega) (by omega), neg_inf]
  refine if_congr Iff.rfl (congrArg (HSub.hSub _) (congrArg cw (funext fun a => ?_))) rfl
  fin_cases a
  · exact Subsingleton.elim (α := Fin 1) _ _
  · exact dif_neg (show ¬ w = 1 by omega)

theorem rowTop_at (s : FVec Ideal (S2 64 w) .f32) (r : Fin 64) (l : Fin 128) :
    rowTop w hr s (ix2 r l) = Finset.fold max ⊥ (fun x => s (ix2 r x)) Finset.univ := by
  pointwise [rowTop]
  rw [neg_inf]

theorem rowWPay_at (s t : FVec Ideal (S2 64 w) .f32) (r : Fin 64) (x : Fin w) :
    rowWPay w hp s t (ix3 0 r x) = Ideal.exp2 (s (ix2 r x) - t (ix2 r x)) := by
  have e : Shape.reshapeEquiv hp (ix3 0 r x) = ix2 r x := by
    have h := ValueIdx.reshapeEquiv_ix2_1ab hp.symm r x
    exact (congrArg (Shape.reshapeEquiv hp) h.symm).trans (by rw [Shape.reshapeEquiv_reshapeEquiv, Shape.reshapeEquiv_self]; rfl)
  pointwise [rowWPay]
  rw [e]
  rfl
end

/-- The lanes repeated over 256 columns. -/
def spread2 (t : FVec Ideal S64x128 .f32) : FVec Ideal S64x256 .f32 :=
  concatenate S64x256 1 [⟨S64x128, t⟩, ⟨S64x128, t⟩] concatenates_S64x128_S64x128_S64x256_d1
/-- The lanes repeated over 384 columns. -/
def spread3 (t : FVec Ideal S64x128 .f32) : FVec Ideal S64x384 .f32 :=
  concatenate S64x384 1 [⟨S64x128, t⟩, ⟨S64x128, t⟩, ⟨S64x128, t⟩] concatenates_S64x128_S64x128_S64x128_S64x384_d1
/-- The lanes repeated over 512 columns. -/
def spread4 (t : FVec Ideal S64x128 .f32) : FVec Ideal S64x512 .f32 :=
  concatenate S64x512 1 [⟨S64x128, t⟩, ⟨S64x128, t⟩, ⟨S64x128, t⟩, ⟨S64x128, t⟩]
    concatenates_S64x128_S64x128_S64x128_S64x128_S64x512_d1

theorem spread1_at (t : FVec Ideal S64x128 .f32) (r : Fin 64) (x : Fin 128) : t (ix2 r x) = t (ix2 r (lane x)) :=
  congrArg (fun l => t (ix2 r l)) (Fin.ext (Nat.mod_eq_of_lt x.isLt).symm)
theorem spread2_at (t : FVec Ideal S64x128 .f32) (r : Fin 64) (x : Fin 256) : spread2 t (ix2 r x) = t (ix2 r (lane x)) := by
  pointwise [spread2]
  have hd := x.isLt
  have e : ∀ (n : ℕ) (hn : n < 128), n = x.val % 128 → (⟨n, hn⟩ : Fin 128) = lane x := fun n hn h => Fin.ext h
  split_ifs <;> first | contradiction | (rw [e _ _ (by omega)])
theorem spread3_at (t : FVec Ideal S64x128 .f32) (r : Fin 64) (x : Fin 384) : spread3 t (ix2 r x) = t (ix2 r (lane x)) := by
  pointwise [spread3]
  have hd := x.isLt
  have e : ∀ (n : ℕ) (hn : n < 128), n = x.val % 128 → (⟨n, hn⟩ : Fin 128) = lane x := fun n hn h => Fin.ext h
  split_ifs <;> first | contradiction | (rw [e _ _ (by omega)])
theorem spread4_at (t : FVec Ideal S64x128 .f32) (r : Fin 64) (x : Fin 512) : spread4 t (ix2 r x) = t (ix2 r (lane x)) := by
  pointwise [spread4]
  have hd := x.isLt
  have e : ∀ (n : ℕ) (hn : n < 128), n = x.val % 128 → (⟨n, hn⟩ : Fin 128) = lane x := fun n hn h => Fin.ext h
  split_ifs <;> first | contradiction | (rw [e _ _ (by omega)])

/-- A maximum over the first `w` columns is one over all when the others hold −∞. -/
theorem fold_cut (w : ℕ) (hw : w ≤ 512) (g : Fin 512 → EReal) (hg : ∀ x : Fin 512, w ≤ x.val → g x = ⊥)
    (f : Fin w → EReal) (hf : ∀ x : Fin w, f x = g ⟨x.val, by omega⟩) :
    Finset.fold max ⊥ f Finset.univ = Finset.fold max ⊥ g Finset.univ := by
  refine le_antisymm ?_ ?_
  · refine (Finset.fold_max_le _).2 ⟨bot_le, fun x _ => ?_⟩
    rw [hf x]
    exact (Finset.le_fold_max _).2 (.inr ⟨_, Finset.mem_univ _, le_rfl⟩)
  · refine (Finset.fold_max_le _).2 ⟨bot_le, fun x _ => ?_⟩
    by_cases h : w ≤ x.val
    · rw [hg x h]; exact bot_le
    · exact (Finset.le_fold_max _).2 (.inr ⟨⟨x.val, by omega⟩, Finset.mem_univ _, (hf ⟨x.val, by omega⟩).ge⟩)

variable (sc : ℕ → Fin 512 → Fin 512 → EReal)

/-- A score under the causal mask. -/
def mval (h : ℕ) (r x : Fin 512) : EReal := if x.val ≤ r.val then sc h r x else ⊥

/-- The reference exponents after the masked block. -/
def firstTop : S4x512x128.Idx → EReal := fun y =>
  Finset.fold max ⊥ (fun x => mval sc (y 0).val (y 1) x) Finset.univ

/-- The number of columns that a row's strip holds. -/
def cols (r : ℕ) : ℕ := (r / 64 + 2) / 2 * 128

/-- The masked block's weights. -/
def firstW : S4x512x512.Idx → EReal := fun y =>
  if (y 2).val < cols (y 1).val then
    Ideal.exp2 (mval sc (y 0).val (y 1) (y 2) - firstTop sc (ix3 (y 0) (y 1) (lane (y 2)))) else 0

section
variable {h w o : ℕ} (hs : S512x512.Slices ![o, 0] (S2 64 w)) (hb : (S2 1 w).Broadcasts (S2 64 w))
  (hi0 : (S2 64 w).Iotas .tc 32 [0]) (hi1 : (S2 64 w).Iotas .tc 32 [1])
  (hr : (S2 64 w).Reduces [1] S64) (hp : (S2 64 w).ShapeCasts (S3 64 w))
  (cw : FVec Ideal (S2 1 w) .f32) (raw : FVec Ideal S512x512 .f32)
  (hw : w ≤ 512) (hsc : ∀ (r : Fin 512) (x : Fin w), raw (ix2 r ⟨x.val, by omega⟩) * k1 - cw (ix2 0 x) = sc h r ⟨x.val, by omega⟩)
include hsc

theorem masked_mval (hw1 : 1 < w) (r : Fin 64) (x : Fin w) (ho : o + r.val < 512) :
    masked w o hs hb hi0 hi1 cw raw (ix2 r x) = mval sc h ⟨o + r.val, ho⟩ ⟨x.val, by omega⟩ := by
  rw [masked_at _ _ _ _ _ _ _ _ (by omega) hw _ _ ho]
  unfold mval
  split_ifs <;> first | exact hsc _ _ | rfl

theorem rowTop_first (how : o + 64 ≤ w) (r : Fin 64) (l : Fin 128)
    (y : S4x512x128.Idx) (h0 : (y 0).val = h) (h1 : (y 1).val = o + r.val) :
    rowTop w hr (masked w o hs hb hi0 hi1 cw raw) (ix2 r l) = firstTop sc y := by
  rw [rowTop_at]
  have ho : o + r.val < 512 := by omega
  have e1 : (⟨o + r.val, ho⟩ : Fin 512) = y 1 := Fin.ext h1.symm
  unfold firstTop
  refine fold_cut w hw _ (fun x hx => ?_) _ fun x => ?_
  · unfold mval; rw [if_neg (by omega)]
  · rw [masked_mval sc hs hb hi0 hi1 cw raw hw hsc (by omega) r x ho, h0, e1]

theorem first_block (how : o + 64 ≤ w) (inb : ∀ a, ![h, o, 0] a + S1x64x128.size a ≤ S4x512x128.size a)
    (pay : S1x64x128.Idx → EReal) (e : pay = rowTopPay w hr (masked w o hs hb hi0 hi1 cw raw)) (x : S1x64x128.Idx) :
    pay x = firstTop sc ((Rect.unit (s := S4x512x128) ![h, o, 0] S1x64x128.size inb).emb x) := by
  subst e
  idx_vars x
  pointwise [rowTopPay]
  refine rowTop_first sc hs hb hi0 hi1 hr cw raw hw hsc how _ _ _ ?_ ?_
  all_goals (refine (Rect.idx_unit_val _ _ _ _ _).trans ?_; simp)

theorem first_weight (how : o + 64 ≤ w) (hcw : w = (o / 64 + 2) / 2 * 128) (ho64 : o % 64 = 0)
    (inb : ∀ a, ![h, o, 0] a + (S3 64 w).size a ≤ S4x512x512.size a)
    (tw : FVec Ideal (S2 64 w) .f32)
    (htw : ∀ r x, tw (ix2 r x) = rowTop w hr (masked w o hs hb hi0 hi1 cw raw) (ix2 r (lane x)))
    (pay : (S3 64 w).Idx → EReal) (e : pay = rowWPay w hp (masked w o hs hb hi0 hi1 cw raw) tw) (x : (S3 64 w).Idx) :
    pay x = firstW sc ((Rect.unit (s := S4x512x512) ![h, o, 0] (S3 64 w).size inb).emb x) := by
  subst e
  obtain ⟨x0, x1, x2, rfl⟩ : ∃ (x0 : Fin 1) (x1 : Fin 64) (x2 : Fin w), x = ix3 x0 x1 x2 :=
    ⟨x 0, x 1, x 2, funext fun a => by fin_cases a <;> rfl⟩
  have e1 : x0 = 0 := Subsingleton.elim _ _
  subst e1
  have v0 : (((Rect.unit (s := S4x512x512) ![h, o, 0] (S3 64 w).size inb).emb (ix3 0 x1 x2)) 0).val = h :=
    (Rect.idx_unit_val _ _ _ _ _).trans (by simp)
  have v1 : (((Rect.unit (s := S4x512x512) ![h, o, 0] (S3 64 w).size inb).emb (ix3 0 x1 x2)) 1).val = o + x1.val :=
    Rect.idx_unit_val _ _ _ _ _
  have v2 : (((Rect.unit (s := S4x512x512) ![h, o, 0] (S3 64 w).size inb).emb (ix3 0 x1 x2)) 2).val = x2.val :=
    (Rect.idx_unit_val _ _ _ _ _).trans (Nat.zero_add _)
  have ho : o + x1.val < 512 := by omega
  rw [rowWPay_at, htw, masked_mval sc hs hb hi0 hi1 cw raw hw hsc (by omega) _ _ ho]
  unfold firstW
  rw [if_pos]
  · congr 1
    congr 1
    · refine (congr (congr (congrArg (mval sc) v0) ?_) ?_).symm
      · exact Fin.ext v1
      · exact Fin.ext v2
    · exact rowTop_first sc hs hb hi0 hi1 hr cw raw hw hsc how _ _ _ v0 v1
  · rw [v2, v1]
    unfold cols
    have := x1.isLt
    have := x2.isLt
    omega
end

/-- The columns beyond a strip's hold zero. -/
theorem zero_block {h o w w' : ℕ} (hcw : w = (o / 64 + 2) / 2 * 128) (ho64 : o % 64 = 0)
    (inb : ∀ a, ![h, o, w] a + (S3 64 w').size a ≤ S4x512x512.size a)
    (pay : (S3 64 w').Idx → EReal) (e : ∀ x, pay x = 0) (x : (S3 64 w').Idx) :
    pay x = firstW sc ((Rect.unit (s := S4x512x512) ![h, o, w] (S3 64 w').size inb).emb x) := by
  rw [e]
  unfold firstW
  rw [if_neg]
  have v1 : (((Rect.unit (s := S4x512x512) ![h, o, w] (S3 64 w').size inb).emb x) 1).val = o + (x 1).val :=
    Rect.idx_unit_val _ _ _ _ _
  have v2 : (((Rect.unit (s := S4x512x512) ![h, o, w] (S3 64 w').size inb).emb x) 2).val = w + (x 2).val :=
    Rect.idx_unit_val _ _ _ _ _
  rw [v1, v2]
  have h1 : (x 1).val < 64 := (x 1).isLt
  unfold cols
  omega

end Cert.FoxIdeal.Strip
-- ==== Proof.FoxScore.lean ====
/- The scores of the attention kernel as one function of the query row and the key's position, and the loads through
   which its loops read them. -/
module

public import proofs.«01_k».proof.Proof.FoxMask
public import Idealize.ShloMosaic.Lib.WordArith.Masks
public import Idealize.ShloMosaic.Lib.LoopRemainder

@[expose] public section

set_option maxRecDepth 16384

noncomputable section

namespace Cert.FoxIdeal.Strip

open Cert.FoxIdeal Cert.FoxIdeal.Gen Idealize.ShloMosaic Idealize.ShloMosaic.TcCoe Idealize.SL.Sem

/-! ## Where the loops load -/

theorem trips1 (i : grid0.Coords) : (k0_t1_loop i).trips = (i 2).val :=
  (by decide +kernel : ∀ n : Fin 8, (⟨0#32, Scalar.addi 0#32 (Scalar.muli (Scalar.divsi (Scalar.subi (BitVec.ofNat 32 n.val) 0#32) 1#32) 1#32), 1#32⟩ : Scf.Loop 32).trips = n.val) (i 2)

theorem trips2 (i : grid0.Coords) : (k0_t2_loop i).trips = 0 :=
  (by decide +kernel : ∀ n : Fin 8, (⟨Scalar.addi 0#32 (Scalar.muli (Scalar.divsi (Scalar.subi (BitVec.ofNat 32 n.val) 0#32) 1#32) 1#32),
    Scalar.addi 0#32 (Scalar.subi (BitVec.ofNat 32 n.val) 0#32), 1#32⟩ : Scf.Loop 32).trips = 0) (i 2)

theorem row_word (k : ℕ) (hk : k < 8) : (Scalar.indexCast (Scalar.muli (Scf.iv 0#32 1#32 k) 512#32)).toNat = 512 * k :=
  (by decide +kernel : ∀ n : Fin 8, (Scalar.indexCast (Scalar.muli (Scf.iv 0#32 1#32 n.val) 512#32)).toNat = 512 * n.val) ⟨k, hk⟩

theorem row_word' (k : ℕ) (hk : k < 8) : (Scalar.indexCast (Scalar.muli (BitVec.ofNat 32 k) 512#32)).toNat = 512 * k :=
  (by decide +kernel : ∀ n : Fin 8, (Scalar.indexCast (Scalar.muli (BitVec.ofNat 32 n.val) 512#32)).toNat = 512 * n.val) ⟨k, hk⟩

theorem head_word (g h : ℕ) (hg : g < 2) (hh : h < 4) :
    (Scalar.indexCast (Scalar.addi (Scalar.muli (BitVec.ofNat 32 g) 4#32) (BitVec.ofNat 32 h))).toNat = 4 * g + h :=
  (by decide +kernel : ∀ (g : Fin 2) (h : Fin 4),
    (Scalar.indexCast (Scalar.addi (Scalar.muli (BitVec.ofNat 32 g.val) 4#32) (BitVec.ofNat 32 h.val))).toNat = 4 * g.val + h.val) ⟨g, hg⟩ ⟨h, hh⟩

section
variable (i : grid0.Coords) (k : Fin (k0_t1_loop i).trips)

theorem k_lt : k.val < 8 := lt_of_lt_of_le k.isLt ((trips1 i).trans_le (Nat.le_of_lt (i 2).isLt))

theorem off10 (h : ℕ) (hh : h < 4) : k0_off10 i k (BitVec.ofNat 32 h) = ![0, 4 * (i 1).val + h, 512 * k.val] := by
  unfold k0_off10
  rw [← row_word k.val (k_lt i k), ← head_word (i 1).val h (i 1).isLt hh]
theorem off11 : k0_off11 i k = ![512 * k.val, 0] := by
  unfold k0_off11; rw [← row_word k.val (k_lt i k)]
theorem off12 : k0_off12 i k = ![0, 512 * k.val, 0] := by
  unfold k0_off12; rw [← row_word k.val (k_lt i k)]
theorem off13 : k0_off13 i k = ![512 * k.val, 128] := by
  unfold k0_off13; rw [← row_word k.val (k_lt i k)]
theorem off14 : k0_off14 i k = ![1, 512 * k.val, 0] := by
  unfold k0_off14; rw [← row_word k.val (k_lt i k)]
theorem off15 : k0_off15 i k = ![512 * k.val, 256] := by
  unfold k0_off15; rw [← row_word k.val (k_lt i k)]
theorem off16 : k0_off16 i k = ![2, 512 * k.val, 0] := by
  unfold k0_off16; rw [← row_word k.val (k_lt i k)]
theorem off17 : k0_off17 i k = ![512 * k.val, 384] := by
  unfold k0_off17; rw [← row_word k.val (k_lt i k)]
theorem off18 : k0_off18 i k = ![3, 512 * k.val, 0] := by
  unfold k0_off18; rw [← row_word k.val (k_lt i k)]

theorem off1 (h : ℕ) (hh : h < 4) : k0_off1 i (BitVec.ofNat 32 h) = ![0, 4 * (i 1).val + h, 512 * (i 2).val] := by
  unfold k0_off1
  rw [← row_word' (i 2).val (i 2).isLt, ← head_word (i 1).val h (i 1).isLt hh]
theorem off2 : k0_off2 i = ![512 * (i 2).val, 0] := by
  unfold k0_off2; rw [← row_word' (i 2).val (i 2).isLt]
theorem off3 : k0_off3 i = ![0, 512 * (i 2).val, 0] := by
  unfold k0_off3; rw [← row_word' (i 2).val (i 2).isLt]
theorem off4 : k0_off4 i = ![512 * (i 2).val, 128] := by
  unfold k0_off4; rw [← row_word' (i 2).val (i 2).isLt]
theorem off5 : k0_off5 i = ![1, 512 * (i 2).val, 0] := by
  unfold k0_off5; rw [← row_word' (i 2).val (i 2).isLt]
theorem off6 : k0_off6 i = ![512 * (i 2).val, 256] := by
  unfold k0_off6; rw [← row_word' (i 2).val (i 2).isLt]
theorem off7 : k0_off7 i = ![2, 512 * (i 2).val, 0] := by
  unfold k0_off7; rw [← row_word' (i 2).val (i 2).isLt]
theorem off8 : k0_off8 i = ![512 * (i 2).val, 384] := by
  unfold k0_off8; rw [← row_word' (i 2).val (i 2).isLt]
theorem off9 : k0_off9 i = ![3, 512 * (i 2).val, 0] := by
  unfold k0_off9; rw [← row_word' (i 2).val (i 2).isLt]
end

/-! ## The scores -/

variable (Q : S512x512.Idx → EReal) (K : S4096x512.Idx → EReal) (C : S1x8x4096.Idx → EReal) (A : S4x4096x256.Idx → EReal) (g : ℕ)

/-- The score of a query row against the key at a position, for a head of the group of four. -/
def sco (h : ℕ) (r : Fin 512) (s : ℕ) : EReal :=
  (∑ d : Fin 128, Q (ix2 r (Fin.ofNat 512 (128 * h + d.val))) * K (ix2 (Fin.ofNat 4096 s) (Fin.ofNat 512 (128 * h + d.val)))) * k1
    - C (ix3 0 (Fin.ofNat 8 (4 * g + h)) (Fin.ofNat 4096 s)) * k2

/-- The value row at a position, with its further columns. -/
def vrow (h : ℕ) (s : ℕ) (d : Fin 256) : EReal := A (ix3 (Fin.ofNat 4 h) (Fin.ofNat 4096 s) d)

/-- A block of keys' scores, by the position of its first key. -/
def scb (b : ℕ) (h : ℕ) (r x : Fin 512) : EReal := sco Q K C g h r (b + x.val)

/-- Loads of the queries, the keys and the log decays give the scores of a block of keys. -/
abbrev Loaded (h b : ℕ) (oq : Fin 2 → ℕ) (ok : Fin 2 → ℕ) (oc : Fin 3 → ℕ)
    (iq : ∀ a, oq a + S512x128.size a ≤ S512x512.size a) (ik : ∀ a, ok a + S512x128.size a ≤ S4096x512.size a)
    (ic : ∀ a, oc a + S1x1x512.size a ≤ S1x8x4096.size a) : Prop :=
  ∀ r x : Fin 512, dots (View.ld (Val := Elt Ideal) (e' := .bf16) Q (Rect.unit (s := S512x512) oq S512x128.size iq))
        (View.ld (Val := Elt Ideal) (e' := .bf16) K (Rect.unit (s := S4096x512) ok S512x128.size ik)) (ix2 r x) * k1
      - decay (View.ld (Val := Elt Ideal) (e' := .f32) C (Rect.unit (s := S1x8x4096) oc S1x1x512.size ic)) (ix2 0 x)
      = scb Q K C g b h r x

theorem scores_load (h b : ℕ) (hh : h < 4) (hg : g < 2) (hb : b + 512 ≤ 4096) (oq : Fin 2 → ℕ) (ok : Fin 2 → ℕ) (oc : Fin 3 → ℕ)
    (iq : ∀ a, oq a + S512x128.size a ≤ S512x512.size a) (ik : ∀ a, ok a + S512x128.size a ≤ S4096x512.size a)
    (ic : ∀ a, oc a + S1x1x512.size a ≤ S1x8x4096.size a)
    (eq : oq = ![0, 128 * h]) (ek : ok = ![b, 128 * h]) (ec : oc = ![0, 4 * g + h, b]) : Loaded Q K C g h b oq ok oc iq ik ic := by
  intro r x
  subst eq ek ec
  refine scores_of _ _ _ h (sc := scb Q K C g b) (fun r x => ?_) r x
  unfold scb sco
  have hx := x.isLt
  refine congrArg₂ (· - ·) (congrArg (· * k1) (Finset.sum_congr rfl fun d _ => congrArg₂ (· * ·) ?_ ?_)) (congrArg (· * k2) ?_)
  · refine View.ld_unit_apply_of _ _ _ _ _ _ fun a => ?_
    have hd := d.isLt
    fin_cases a
    · exact (Nat.zero_add _).symm
    · exact Nat.mod_eq_of_lt (by omega)
  · refine View.ld_unit_apply_of _ _ _ _ _ _ fun a => ?_
    have hd := d.isLt
    fin_cases a
    · exact Nat.mod_eq_of_lt (by omega)
    · exact Nat.mod_eq_of_lt (by omega)
  · refine View.ld_unit_apply_of _ _ _ _ _ _ fun a => ?_
    fin_cases a
    · rfl
    · exact Nat.mod_eq_of_lt (by omega)
    · exact Nat.mod_eq_of_lt (by omega)

theorem values_load (h b : ℕ) (hh : h < 4) (hb : b + 512 ≤ 4096) (ov : Fin 3 → ℕ)
    (iv : ∀ a, ov a + S1x512x256.size a ≤ S4x4096x256.size a) (ev : ov = ![h, b, 0]) (x : Fin 512) (d : Fin 256) :
    View.ld (Val := Elt Ideal) (e' := .bf16) A (Rect.unit (s := S4x4096x256) ov S1x512x256.size iv) (ix3 0 x d) = vrow A h (b + x.val) d := by
  subst ev
  unfold vrow
  refine View.ld_unit_apply_of _ _ _ _ _ _ fun a => ?_
  have hx := x.isLt
  fin_cases a
  · exact Nat.mod_eq_of_lt hh
  · exact Nat.mod_eq_of_lt (by omega)
  · exact (Nat.zero_add _).symm

end Cert.FoxIdeal.Strip
-- ==== Proof.FoxStore.lean ====
/- The stores of the attention kernel's scratch memory: a piece of a strip as a block of what the stores leave, a head's
   strips together, and loads of a whole head over them. -/
module

public import proofs.«01_k».proof.Proof.FoxScore
public import Idealize.ShloMosaic.Lib.Pipeline.ReadBack

@[expose] public section

set_option maxRecDepth 16384

noncomputable section

namespace Cert.FoxIdeal.Strip

open Cert.FoxIdeal Cert.FoxIdeal.Gen Idealize.ShloMosaic Idealize.ShloMosaic.TcCoe Idealize.ShloMosaic.Tactic Idealize.SL.Sem

/-! ## A stored piece as a block of what the stores leave -/

theorem slice_ok {h o : ℕ} (inb : ∀ a, ![h, o, 0] a + S1x64x128.size a ≤ S4x512x128.size a) : S512x512.Slices ![o, 0] S64x512 := by
  have h1 : o + 64 ≤ 512 := inb 1
  refine ⟨rfl, fun a => ?_⟩
  fin_cases a
  · exact h1
  · exact Nat.le_refl 512

section
variable (o : ℕ) (c2 : FVec Ideal S1x512 .f32) (raw : FVec Ideal S512x512 .f32)
  (M : S4x512x128.Idx → EReal) (A : S4x512x256.Idx → EReal) (sc : ℕ → Fin 512 → Fin 512 → EReal)
  {h : ℕ} (hsc : ∀ r x : Fin 512, raw (ix2 r x) * k1 - c2 (ix2 0 x) = sc h r x)
  (inb : ∀ a, ![h, o, 0] a + S1x64x128.size a ≤ S4x512x128.size a)
  (inb' : ∀ a, ![h, o, 0] a + S1x64x256.size a ≤ S4x512x256.size a)
  (inb'' : ∀ a, ![h, o, 0] a + S1x64x512.size a ≤ S4x512x512.size a)
include hsc

theorem top_piece (p : View.Piece (Elt Ideal) S4x512x128 .f32) (e : p = ⟨Rect.unit (s := S4x512x128) ![h, o, 0] S1x64x128.size inb,
      topPay o (slice_ok inb) c2 raw (View.ld M (Rect.unit (s := S4x512x128) ![h, o, 0] S1x64x128.size inb))⟩) (x : p.1.shape.Idx) :
    p.2 x = newTop M sc (p.1.emb x) := by
  subst e
  exact top_block o (slice_ok inb) c2 raw M sc hsc inb _ rfl x

theorem acc_piece (p : View.Piece (Elt Ideal) S4x512x256 .f32) (e : p = ⟨Rect.unit (s := S4x512x256) ![h, o, 0] S1x64x256.size inb',
      accPay o (slice_ok inb) c2 raw (View.ld M (Rect.unit (s := S4x512x128) ![h, o, 0] S1x64x128.size inb))
        (View.ld A (Rect.unit (s := S4x512x256) ![h, o, 0] S1x64x256.size inb'))⟩) (x : p.1.shape.Idx) :
    p.2 x = newAcc M A sc (p.1.emb x) := by
  subst e
  exact acc_block o (slice_ok inb) c2 raw M A sc hsc inb inb' _ rfl x

theorem w_piece (p : View.Piece (Elt Ideal) S4x512x512 .bf16) (e : p = ⟨Rect.unit (s := S4x512x512) ![h, o, 0] S1x64x512.size inb'',
      wPay o (slice_ok inb) c2 raw (View.ld M (Rect.unit (s := S4x512x128) ![h, o, 0] S1x64x128.size inb))⟩) (x : p.1.shape.Idx) :
    p.2 x = newW M sc (p.1.emb x) := by
  subst e
  exact w_block o (slice_ok inb) c2 raw M sc hsc inb inb'' _ rfl x
end

/-! ## The strips of one head -/

/-- A rectangle that starts at a head, a row and a column and is one head, `m` rows and `w'` columns large. -/
def Starts {N : ℕ} (r : Rect ⟨3, ![4, 512, N]⟩) (h o w m w' : ℕ) : Prop := r.off = ![h, o, w] ∧ r.size = ![1, m, w'] ∧ r.stride = fun _ => 1

/-- Stores of a head's strips of 64 rows, the last first, over earlier stores: each is a block of `G`. A strip may be
    stored as its right part over its left part. -/
inductive Strips {e : EltTy} {N : ℕ} (G : Shape.Idx ⟨3, ![4, 512, N]⟩ → Elt Ideal e) (h : ℕ) (rest : List (View.Piece (Elt Ideal) ⟨3, ![4, 512, N]⟩ e)) :
    ℕ → List (View.Piece (Elt Ideal) ⟨3, ![4, 512, N]⟩ e) → Prop
  | nil : Strips G h rest 0 rest
  | cons {n : ℕ} (p) (L) (e : Starts p.1 h (64 * n) 0 64 N)
      (hp : ∀ x, p.2 x = G (p.1.emb x)) (H : Strips G h rest n L) : Strips G h rest (n + 1) (p :: L)
  | two {n : ℕ} (w w' : ℕ) (p p') (L) (e : Starts p.1 h (64 * n) w 64 w') (e' : Starts p'.1 h (64 * n) 0 64 w) (hw : w + w' = N)
      (hp : ∀ x, p.2 x = G (p.1.emb x)) (hp' : ∀ x, p'.2 x = G (p'.1.emb x)) (H : Strips G h rest n L) :
      Strips G h rest (n + 1) (p :: p' :: L)

section
variable {e : EltTy} {N h n : ℕ} {G : Shape.Idx ⟨3, ![4, 512, N]⟩ → Elt Ideal e}
  {rest L : List (View.Piece (Elt Ideal) ⟨3, ![4, 512, N]⟩ e)}

/-- An index lies in such a rectangle when its coordinates do. -/
theorem mem_block {q : Rect ⟨3, ![4, 512, N]⟩} {o w m w' : ℕ} (hq : Starts q h o w m w') (y : Shape.Idx ⟨3, ![4, 512, N]⟩) (h0 : (y 0).val = h)
    (h1 : o ≤ (y 1).val) (h1' : (y 1).val < o + m) (h2 : w ≤ (y 2).val) (h2' : (y 2).val < w + w') : y ∈ q.set := by
  obtain ⟨e1, e2, e3⟩ := hq
  refine (LoadRect.mem_set _).2 fun a => ?_
  rw [e1, e2, e3]
  fin_cases a
  · exact ⟨0, Nat.one_pos, h0⟩
  · exact ⟨(y 1).val - o, show (y 1).val - o < m by omega, show (y 1).val = o + 1 * ((y 1).val - o) by omega⟩
  · exact ⟨(y 2).val - w, show (y 2).val - w < w' by omega, show (y 2).val = w + 1 * ((y 2).val - w) by omega⟩

/-- It does not when its head is another. -/
theorem not_mem_block {q : Rect ⟨3, ![4, 512, N]⟩} {o w m w' : ℕ} (hq : Starts q h o w m w') (y : Shape.Idx ⟨3, ![4, 512, N]⟩) (h0 : (y 0).val ≠ h) :
    y ∉ q.set := fun hy => by
  obtain ⟨e1, e2, e3⟩ := hq
  obtain ⟨j, hj, e⟩ := (LoadRect.mem_set _).1 hy 0
  rw [e2] at hj
  rw [e1, e3] at e
  have h1 : j < 1 := hj
  have h2 : (y 0).val = h + 1 * j := e
  omega

/-- A piece that is a block of `G` gives `G` where it lies. -/
theorem canon_hit (p : View.Piece (Elt Ideal) ⟨3, ![4, 512, N]⟩ e) (hp : ∀ x, p.2 x = G (p.1.emb x)) {y : Shape.Idx ⟨3, ![4, 512, N]⟩}
    (hy : y ∈ p.1.set) : View.canon (p :: L) y = G y :=
  View.canon_append_of_piecesOf G L [p] ⟨hp, trivial⟩ y ⟨p, List.mem_singleton_self _, hy⟩

theorem Strips.canon (H : Strips G h rest n L) (y : Shape.Idx ⟨3, ![4, 512, N]⟩) (h0 : (y 0).val = h) (h1 : (y 1).val < 64 * n) :
    View.canon L y = G y := by
  have h2 : (y 2).val < N := (y 2).isLt
  induction H with
  | nil => omega
  | @cons n p L e hp H ih =>
    by_cases hy : y ∈ p.1.set
    · exact canon_hit p hp hy
    · rw [View.canon_cons_of_not_mem _ _ hy]
      refine ih ?_
      by_contra hc
      exact hy (mem_block e y h0 (by omega) (by omega) (Nat.zero_le _) (by omega))
  | @two n w w' p p' L e e' hw hp hp' H ih =>
    by_cases hy : y ∈ p.1.set
    · exact canon_hit p hp hy
    · rw [View.canon_cons_of_not_mem _ _ hy]
      by_cases hy' : y ∈ p'.1.set
      · exact canon_hit p' hp' hy'
      · rw [View.canon_cons_of_not_mem _ _ hy']
        refine ih ?_
        by_contra hc
        by_cases hw2 : (y 2).val < w
        · exact hy' (mem_block e' y h0 (by omega) (by omega) (Nat.zero_le _) (by omega))
        · exact hy (mem_block e y h0 (by omega) (by omega) (by omega) (by omega))

theorem Strips.skip {v : View sig .tc .vmem ⟨3, ![4, 512, N]⟩ e} (f) (H : Strips G h rest n L) (y : Shape.Idx ⟨3, ![4, 512, N]⟩) (h0 : (y 0).val ≠ h) :
    v.read (Elt Ideal) (v.writes (Elt Ideal) f L) y = v.read (Elt Ideal) (v.writes (Elt Ideal) f rest) y := by
  induction H with
  | nil => rfl
  | cons p L e hp H ih => rw [View.read_writes_cons_miss _ _ _ _ _ (not_mem_block e y h0), ih]
  | two w w' p p' L e e' hw hp hp' H ih =>
    rw [View.read_writes_cons_miss _ _ _ _ _ (not_mem_block e y h0), View.read_writes_cons_miss _ _ _ _ _ (not_mem_block e' y h0), ih]

theorem head_emb (hh : h < 4) (inb : ∀ a, ![h, 0, 0] a + ![1, 512, N] a ≤ Shape.size ⟨3, ![4, 512, N]⟩ a) (r : Fin 512) (x : Fin N) :
    (Rect.unit (s := ⟨3, ![4, 512, N]⟩) ![h, 0, 0] ![1, 512, N] inb).emb (ix3 0 r x) = ix3 ⟨h, hh⟩ r x := by
  have hv := Rect.idx_unit_val (s := ⟨3, ![4, 512, N]⟩) ![h, 0, 0] ![1, 512, N] inb (ix3 0 r x)
  funext a
  fin_cases a
  · exact Fin.ext (hv 0)
  · exact Fin.ext ((hv 1).trans (Nat.zero_add _))
  · exact Fin.ext ((hv 2).trans (Nat.zero_add _))

/-- A load of the whole head finds `G`. -/
theorem Strips.load {v : View sig .tc .vmem ⟨3, ![4, 512, N]⟩ e} (H : Strips G h rest 8 L) (hh : h < 4)
    (inb : ∀ a, ![h, 0, 0] a + ![1, 512, N] a ≤ Shape.size ⟨3, ![4, 512, N]⟩ a) (r : Fin 512) (x : Fin N) :
    v.readCov L (Rect.unit (s := ⟨3, ![4, 512, N]⟩) ![h, 0, 0] ![1, 512, N] inb).toLoadRect (ix3 0 r x) = G (ix3 ⟨h, hh⟩ r x) := by
  rw [View.readCov_eq_canon']
  have e := head_emb hh inb r x
  show View.canon L ((Rect.unit (s := ⟨3, ![4, 512, N]⟩) ![h, 0, 0] ![1, 512, N] inb).emb (ix3 0 r x)) = _
  rw [e]
  exact H.canon _ rfl r.isLt

/-- The newest store of a whole head is what a load of the memory finds there, -/
theorem head_hit {v : View sig .tc .vmem ⟨3, ![4, 512, N]⟩ e} (f) (hh : h < 4)
    (inb : ∀ a, ![h, 0, 0] a + ![1, 512, N] a ≤ Shape.size ⟨3, ![4, 512, N]⟩ a) (pay) (r : Fin 512) (x : Fin N) :
    v.read (Elt Ideal) (v.writes (Elt Ideal) f (⟨Rect.unit (s := ⟨3, ![4, 512, N]⟩) ![h, 0, 0] ![1, 512, N] inb, pay⟩ :: L)) (ix3 ⟨h, hh⟩ r x)
      = pay (ix3 0 r x) := by
  have e := head_emb hh inb r x
  rw [← e]
  exact View.read_writes_cons_emb _ _ _ _ _ _

/-- and for another head the store and the strips below it are passed over. -/
theorem Strips.pass {v : View sig .tc .vmem ⟨3, ![4, 512, N]⟩ e} (f) (H : Strips G h rest n L)
    {inb : ∀ a, ![h, 0, 0] a + ![1, 512, N] a ≤ Shape.size ⟨3, ![4, 512, N]⟩ a} (pay) (y : Shape.Idx ⟨3, ![4, 512, N]⟩) (h0 : (y 0).val ≠ h) :
    v.read (Elt Ideal) (v.writes (Elt Ideal) f (⟨Rect.unit (s := ⟨3, ![4, 512, N]⟩) ![h, 0, 0] ![1, 512, N] inb, pay⟩ :: L)) y
      = v.read (Elt Ideal) (v.writes (Elt Ideal) f rest) y := by
  rw [View.read_writes_cons_miss _ _ _ _ _ (not_mem_block ⟨rfl, rfl, rfl⟩ y h0), H.skip f y h0]
end

end Cert.FoxIdeal.Strip
-- ==== Proof.FoxTrip.lean ====
/- What one trip of the attention kernel's loop over key blocks leaves in its scratch memory: the reference exponents
   and the accumulator, as functions of what the trip finds there. -/
module

public import proofs.«01_k».proof.Proof.FoxStore

@[expose] public section

set_option maxRecDepth 16384

noncomputable section

namespace Cert.FoxIdeal.Strip

open Cert.FoxIdeal Cert.FoxIdeal.Gen Idealize.ShloMosaic Idealize.ShloMosaic.TcCoe Idealize.ShloMosaic.Tactic Idealize.SL.Sem

/-! ## The trip -/

section
variable (𝒱 : Variants) (c : Dev nD) (bd : Option 𝒱.V) (i : grid0.Coords)
  (arg3 : Memref sig .tc .vmem S512x512 .bf16) (harg3 : arg3.IsWhole) (arg4 : Memref sig .tc .vmem S4096x512 .bf16) (harg4 : arg4.IsWhole)
  (arg5 : Memref sig .tc .vmem S4096x512 .bf16) (harg5 : arg5.IsWhole) (arg6 : Memref sig .tc .vmem S1x8x4096 .f32) (harg6 : arg6.IsWhole)
  (arg7 : Memref sig .tc .vmem S512x512 .bf16) (harg7 : arg7.IsWhole) (arg8 : Memref sig .tc .vmem S4x4096x256 .bf16) (harg8 : arg8.IsWhole)
  (arg9 : Memref sig .tc .vmem S4x512x128 .f32) (harg9 : arg9.IsWhole) (arg10 : Memref sig .tc .vmem S4x512x256 .f32) (harg10 : arg10.IsWhole)
  (arg11 : Memref sig .tc .vmem S4x512x512 .bf16) (harg11 : arg11.IsWhole) (w1 w2 w3 : BitVec 32)
  (X3 : BufTy.Contents (Elt Ideal) arg3.view.ty) (X4 : BufTy.Contents (Elt Ideal) arg4.view.ty) (X6 : BufTy.Contents (Elt Ideal) arg6.view.ty)
  (X8 : BufTy.Contents (Elt Ideal) arg8.view.ty) (k : Fin (k0_t1_loop i).trips)
  (f9 : BufTy.Contents (Elt Ideal) arg9.view.ty) (f10 : BufTy.Contents (Elt Ideal) arg10.view.ty) (f11 : BufTy.Contents (Elt Ideal) arg11.view.ty)

/-- The scores of a block of keys, by the position of its first key. -/
abbrev keys (b : ℕ) : ℕ → Fin 512 → Fin 512 → EReal :=
  scb (arg3.view.read (Elt Ideal) X3) (arg4.view.read (Elt Ideal) X4) (arg6.view.read (Elt Ideal) X6) (i 1).val b

include k in
theorem rows_le : 512 * k.val + 512 ≤ 4096 := by have := k_lt i k; omega

/-- The first head's scores as the trip loads them. -/
theorem head0 : Loaded (arg3.view.read (Elt Ideal) X3) (arg4.view.read (Elt Ideal) X4) (arg6.view.read (Elt Ideal) X6) (i 1).val
    0 (512 * k.val) ![0, 0] (k0_off11 i k) (k0_off10 i k 0#32) inb_S512x512_S512x128_0_0 (k0_off11_inb i k) (k0_off10_inb i k 0) :=
  scores_load _ _ _ _ _ _ (by decide) (i 1).isLt (rows_le i k) _ _ _ _ _ _ rfl (off11 i k) (off10 i k 0 (by decide))
/-- The second head's. -/
theorem head1 : Loaded (arg3.view.read (Elt Ideal) X3) (arg4.view.read (Elt Ideal) X4) (arg6.view.read (Elt Ideal) X6) (i 1).val
    1 (512 * k.val) ![0, 128] (k0_off13 i k) (k0_off10 i k 1#32) inb_S512x512_S512x128_0_128 (k0_off13_inb i k) (k0_off10_inb i k 1) :=
  scores_load _ _ _ _ _ _ (by decide) (i 1).isLt (rows_le i k) _ _ _ _ _ _ rfl (off13 i k) (off10 i k 1 (by decide))
/-- The third head's. -/
theorem head2 : Loaded (arg3.view.read (Elt Ideal) X3) (arg4.view.read (Elt Ideal) X4) (arg6.view.read (Elt Ideal) X6) (i 1).val
    2 (512 * k.val) ![0, 256] (k0_off15 i k) (k0_off10 i k 2#32) inb_S512x512_S512x128_0_256 (k0_off15_inb i k) (k0_off10_inb i k 2) :=
  scores_load _ _ _ _ _ _ (by decide) (i 1).isLt (rows_le i k) _ _ _ _ _ _ rfl (off15 i k) (off10 i k 2 (by decide))
/-- The fourth head's. -/
theorem head3 : Loaded (arg3.view.read (Elt Ideal) X3) (arg4.view.read (Elt Ideal) X4) (arg6.view.read (Elt Ideal) X6) (i 1).val
    3 (512 * k.val) ![0, 384] (k0_off17 i k) (k0_off10 i k 3#32) inb_S512x512_S512x128_0_384 (k0_off17_inb i k) (k0_off10_inb i k 3) :=
  scores_load _ _ _ _ _ _ (by decide) (i 1).isLt (rows_le i k) _ _ _ _ _ _ rfl (off17 i k) (off10 i k 3 (by decide))

/-- The reference exponents that a trip leaves. -/
theorem trip_top : arg9.view.read (Elt Ideal) (arg9.view.writes (Elt Ideal) f9
      ((trip_k0_t1 (F := Ideal) 𝒱 c bd i arg3 harg3 arg4 harg4 arg5 harg5 arg6 harg6 arg7 harg7 arg8 harg8 arg9 harg9 arg10 harg10
        arg11 harg11 w1 w2 w3 X3 X4 X6 X8 k).1 f9 f10 f11))
    = newTop (arg9.view.read (Elt Ideal) f9) (keys i arg3 arg4 arg6 X3 X4 X6 (512 * k.val)) := by
  have h0 := head0 i arg3 arg4 arg6 X3 X4 X6 k
  have h1 := head1 i arg3 arg4 arg6 X3 X4 X6 k
  have h2 := head2 i arg3 arg4 arg6 X3 X4 X6 k
  have h3 := head3 i arg3 arg4 arg6 X3 X4 X6 k
  funext y
  unfold trip_k0_t1
  dsimp only
  refine View.read_writes_apply_of_pieces (Val := Elt Ideal) (e := .f32) _ _ (newTop _ _) _ (View.PiecesOf.mem ?_) y (View.cover_of_tiledL (s := S4x512x128) _ ![1, 64, 128] (by sl_kernel_rfl) y)
  repeat' apply And.intro
  iterate 8 (· exact top_piece _ _ _ _ _ h3 _ _ rfl)
  iterate 8 (· exact top_piece _ _ _ _ _ h2 _ _ rfl)
  iterate 8 (· exact top_piece _ _ _ _ _ h1 _ _ rfl)
  iterate 8 (· exact top_piece _ _ _ _ _ h0 _ _ rfl)
  exact trivial

/-- The accumulator after a further key block, with the block's values from position `b`. -/
def accAfter (M : S4x512x128.Idx → EReal) (A : S4x512x256.Idx → EReal) (sc : ℕ → Fin 512 → Fin 512 → EReal)
    (W : S4x4096x256.Idx → EReal) (b : ℕ) : S4x512x256.Idx → EReal := fun y =>
  newAcc M A sc y + ∑ x : Fin 512, newW M sc (ix3 (y 0) (y 1) x) * vrow W (y 0).val (b + x.val) (y 2)

/-- One head's product added to its rescaled accumulator. -/
theorem sum_block {M : S4x512x128.Idx → EReal} {A : S4x512x256.Idx → EReal} {sc : ℕ → Fin 512 → Fin 512 → EReal}
    {W : S4x4096x256.Idx → EReal} {b h : ℕ} (hh : h < 4) {pay : FVec Ideal S1x512x256 .f32} {p : FVec Ideal S1x512x512 .bf16}
    {v : FVec Ideal S1x512x256 .bf16} {a : Vec Ideal S1x512x256 .f32} (e : pay = sumPay p v a)
    (hp : ∀ r x, p (ix3 0 r x) = newW M sc (ix3 ⟨h, hh⟩ r x)) (hv : ∀ x d, v (ix3 0 x d) = vrow W h (b + x.val) d)
    (ha : ∀ r d, a (ix3 0 r d) = newAcc M A sc (ix3 ⟨h, hh⟩ r d)) (r : Fin 512) (d : Fin 256) :
    pay (ix3 0 r d) = accAfter M A sc W b (ix3 ⟨h, hh⟩ r d) := by
  rw [e, sum_at, ha]
  exact congrArg (HAdd.hAdd _) (Finset.sum_congr rfl fun x _ => congrArg₂ (· * ·) (hp r x) (hv x d))

/-- Each head's strips of the accumulator and of the weights. -/
theorem acc_strips0 : Strips (e := .f32) (N := 256) (newAcc (arg9.view.read (Elt Ideal) f9) (arg10.view.read (Elt Ideal) f10)
      (keys i arg3 arg4 arg6 X3 X4 X6 (512 * k.val))) 0 (List.drop 8 (trip_k0_t1.sl.HW_arg10_8 i arg3 arg4 arg6 arg9 arg10 X3 X4 X6 k f9 f10)) 8
      (trip_k0_t1.sl.HW_arg10_8 i arg3 arg4 arg6 arg9 arg10 X3 X4 X6 k f9 f10) := by
  have hd := head0 i arg3 arg4 arg6 X3 X4 X6 k
  unfold trip_k0_t1.sl.HW_arg10_8
  iterate 8 refine .cons _ _ ⟨rfl, rfl, rfl⟩ (acc_piece _ _ _ _ _ _ hd _ _ _ rfl) ?_
  exact .nil

theorem w_strips0 : Strips (e := .bf16) (N := 512) (newW (arg9.view.read (Elt Ideal) f9)
      (keys i arg3 arg4 arg6 X3 X4 X6 (512 * k.val))) 0 (List.drop 8 (trip_k0_t1.sl.HW_arg11_8 i arg3 arg4 arg6 arg9 X3 X4 X6 k f9)) 8
      (trip_k0_t1.sl.HW_arg11_8 i arg3 arg4 arg6 arg9 X3 X4 X6 k f9) := by
  have hd := head0 i arg3 arg4 arg6 X3 X4 X6 k
  unfold trip_k0_t1.sl.HW_arg11_8
  iterate 8 refine .cons _ _ ⟨rfl, rfl, rfl⟩ (w_piece _ _ _ _ _ hd _ _ _ rfl) ?_
  exact .nil

theorem acc_strips1 : Strips (e := .f32) (N := 256) (newAcc (arg9.view.read (Elt Ideal) f9) (arg10.view.read (Elt Ideal) f10)
      (keys i arg3 arg4 arg6 X3 X4 X6 (512 * k.val))) 1 (List.drop 8 (trip_k0_t1.sl.HW_arg10_17 i arg3 arg4 arg6 arg8 arg9 arg10 arg11 X3 X4 X6 X8 k f9 f10)) 8
      (trip_k0_t1.sl.HW_arg10_17 i arg3 arg4 arg6 arg8 arg9 arg10 arg11 X3 X4 X6 X8 k f9 f10) := by
  have hd := head1 i arg3 arg4 arg6 X3 X4 X6 k
  unfold trip_k0_t1.sl.HW_arg10_17
  iterate 8 refine .cons _ _ ⟨rfl, rfl, rfl⟩ (acc_piece _ _ _ _ _ _ hd _ _ _ rfl) ?_
  exact .nil

theorem w_strips1 : Strips (e := .bf16) (N := 512) (newW (arg9.view.read (Elt Ideal) f9)
      (keys i arg3 arg4 arg6 X3 X4 X6 (512 * k.val))) 1 (List.drop 8 (trip_k0_t1.sl.HW_arg11_16 i arg3 arg4 arg6 arg9 X3 X4 X6 k f9)) 8
      (trip_k0_t1.sl.HW_arg11_16 i arg3 arg4 arg6 arg9 X3 X4 X6 k f9) := by
  have hd := head1 i arg3 arg4 arg6 X3 X4 X6 k
  unfold trip_k0_t1.sl.HW_arg11_16
  iterate 8 refine .cons _ _ ⟨rfl, rfl, rfl⟩ (w_piece _ _ _ _ _ hd _ _ _ rfl) ?_
  exact .nil

theorem acc_strips2 : Strips (e := .f32) (N := 256) (newAcc (arg9.view.read (Elt Ideal) f9) (arg10.view.read (Elt Ideal) f10)
      (keys i arg3 arg4 arg6 X3 X4 X6 (512 * k.val))) 2 (List.drop 8 (trip_k0_t1.sl.HW_arg10_26 i arg3 arg4 arg6 arg8 arg9 arg10 arg11 X3 X4 X6 X8 k f9 f10)) 8
      (trip_k0_t1.sl.HW_arg10_26 i arg3 arg4 arg6 arg8 arg9 arg10 arg11 X3 X4 X6 X8 k f9 f10) := by
  have hd := head2 i arg3 arg4 arg6 X3 X4 X6 k
  unfold trip_k0_t1.sl.HW_arg10_26
  iterate 8 refine .cons _ _ ⟨rfl, rfl, rfl⟩ (acc_piece _ _ _ _ _ _ hd _ _ _ rfl) ?_
  exact .nil

theorem w_strips2 : Strips (e := .bf16) (N := 512) (newW (arg9.view.read (Elt Ideal) f9)
      (keys i arg3 arg4 arg6 X3 X4 X6 (512 * k.val))) 2 (List.drop 8 (trip_k0_t1.sl.HW_arg11_24 i arg3 arg4 arg6 arg9 X3 X4 X6 k f9)) 8
      (trip_k0_t1.sl.HW_arg11_24 i arg3 arg4 arg6 arg9 X3 X4 X6 k f9) := by
  have hd := head2 i arg3 arg4 arg6 X3 X4 X6 k
  unfold trip_k0_t1.sl.HW_arg11_24
  iterate 8 refine .cons _ _ ⟨rfl, rfl, rfl⟩ (w_piece _ _ _ _ _ hd _ _ _ rfl) ?_
  exact .nil

theorem acc_strips3 : Strips (e := .f32) (N := 256) (newAcc (arg9.view.read (Elt Ideal) f9) (arg10.view.read (Elt Ideal) f10)
      (keys i arg3 arg4 arg6 X3 X4 X6 (512 * k.val))) 3 (List.drop 8 (trip_k0_t1.sl.HW_arg10_35 i arg3 arg4 arg6 arg8 arg9 arg10 arg11 X3 X4 X6 X8 k f9 f10)) 8
      (trip_k0_t1.sl.HW_arg10_35 i arg3 arg4 arg6 arg8 arg9 arg10 arg11 X3 X4 X6 X8 k f9 f10) := by
  have hd := head3 i arg3 arg4 arg6 X3 X4 X6 k
  unfold trip_k0_t1.sl.HW_arg10_35
  iterate 8 refine .cons _ _ ⟨rfl, rfl, rfl⟩ (acc_piece _ _ _ _ _ _ hd _ _ _ rfl) ?_
  exact .nil

theorem w_strips3 : Strips (e := .bf16) (N := 512) (newW (arg9.view.read (Elt Ideal) f9)
      (keys i arg3 arg4 arg6 X3 X4 X6 (512 * k.val))) 3 (List.drop 8 (trip_k0_t1.sl.HW_arg11_32 i arg3 arg4 arg6 arg9 X3 X4 X6 k f9)) 8
      (trip_k0_t1.sl.HW_arg11_32 i arg3 arg4 arg6 arg9 X3 X4 X6 k f9) := by
  have hd := head3 i arg3 arg4 arg6 X3 X4 X6 k
  unfold trip_k0_t1.sl.HW_arg11_32
  iterate 8 refine .cons _ _ ⟨rfl, rfl, rfl⟩ (w_piece _ _ _ _ _ hd _ _ _ rfl) ?_
  exact .nil

/-- A head's stored product: its strips of weights times the block's values, added to its strips of the accumulator. -/
theorem total {h : ℕ} (hh : h < 4) {rp ra : List _} {Lp La : List _}
    (sp : Strips (e := .bf16) (N := 512) (newW (arg9.view.read (Elt Ideal) f9) (keys i arg3 arg4 arg6 X3 X4 X6 (512 * k.val))) h rp 8 Lp)
    (sa : Strips (e := .f32) (N := 256) (newAcc (arg9.view.read (Elt Ideal) f9) (arg10.view.read (Elt Ideal) f10)
      (keys i arg3 arg4 arg6 X3 X4 X6 (512 * k.val))) h ra 8 La) (ip ov iv ia) (ev : ov = ![h, 512 * k.val, 0]) (r : Fin 512) (d : Fin 256) :
    sumPay (arg11.view.readCov Lp (Rect.unit (s := S4x512x512) ![h, 0, 0] S1x512x512.size ip).toLoadRect)
        (arg8.view.readAt (Elt Ideal) (Rect.unit (s := S4x4096x256) ov S1x512x256.size iv).toLoadRect X8)
        (arg10.view.readCov La (Rect.unit (s := S4x512x256) ![h, 0, 0] S1x512x256.size ia).toLoadRect) (ix3 0 r d)
      = accAfter (arg9.view.read (Elt Ideal) f9) (arg10.view.read (Elt Ideal) f10) (keys i arg3 arg4 arg6 X3 X4 X6 (512 * k.val))
        (arg8.view.read (Elt Ideal) X8) (512 * k.val) (ix3 ⟨h, hh⟩ r d) :=
  sum_block hh rfl (fun r x => sp.load hh ip r x) (fun x d => values_load _ h _ hh (rows_le i k) ov iv ev x d)
    (fun r d => sa.load hh ia r d) r d

/-- The accumulator that a trip leaves. -/
theorem trip_acc : arg10.view.read (Elt Ideal) (arg10.view.writes (Elt Ideal) f10
      ((trip_k0_t1 (F := Ideal) 𝒱 c bd i arg3 harg3 arg4 harg4 arg5 harg5 arg6 harg6 arg7 harg7 arg8 harg8 arg9 harg9 arg10 harg10
        arg11 harg11 w1 w2 w3 X3 X4 X6 X8 k).2.1 f9 f10 f11))
    = accAfter (arg9.view.read (Elt Ideal) f9) (arg10.view.read (Elt Ideal) f10) (keys i arg3 arg4 arg6 X3 X4 X6 (512 * k.val))
        (arg8.view.read (Elt Ideal) X8) (512 * k.val) := by
  have a0 := acc_strips0 i arg3 arg4 arg6 arg9 arg10 X3 X4 X6 k f9 f10
  have a1 := acc_strips1 i arg3 arg4 arg6 arg8 arg9 arg10 arg11 X3 X4 X6 X8 k f9 f10
  have a2 := acc_strips2 i arg3 arg4 arg6 arg8 arg9 arg10 arg11 X3 X4 X6 X8 k f9 f10
  have a3 := acc_strips3 i arg3 arg4 arg6 arg8 arg9 arg10 arg11 X3 X4 X6 X8 k f9 f10
  have p0 := w_strips0 i arg3 arg4 arg6 arg9 X3 X4 X6 k f9
  have p1 := w_strips1 i arg3 arg4 arg6 arg9 X3 X4 X6 k f9
  have p2 := w_strips2 i arg3 arg4 arg6 arg9 X3 X4 X6 k f9
  have p3 := w_strips3 i arg3 arg4 arg6 arg9 X3 X4 X6 k f9
  have hne : ∀ {a : Fin 4} {b : ℕ} (r : Fin 512) (d : Fin 256), a.val ≠ b → ((ix3 a r d : S4x512x256.Idx) 0).val ≠ b :=
    fun _ _ h => h
  funext y
  unfold trip_k0_t1
  dsimp only
  idx_vars y
  obtain ⟨y0, hy⟩ := y0
  rcases (by omega : y0 = 3 ∨ y0 = 2 ∨ y0 = 1 ∨ y0 = 0) with e | e | e | e <;> subst e
  · exact (head_hit f10 hy _ _ _ _).trans (total i arg3 arg4 arg6 arg8 arg9 arg10 arg11 X3 X4 X6 X8 k f9 f10 hy p3 a3 _ _ _ _ (off18 i k) _ _)
  · exact (a3.pass f10 _ _ (hne y1 y2 (by decide : (2:ℕ) ≠ 3))).trans ((head_hit f10 hy _ _ _ _).trans
      (total i arg3 arg4 arg6 arg8 arg9 arg10 arg11 X3 X4 X6 X8 k f9 f10 hy p2 a2 _ _ _ _ (off16 i k) _ _))
  · exact (a3.pass f10 _ _ (hne y1 y2 (by decide : (1:ℕ) ≠ 3))).trans ((a2.pass f10 _ _ (hne y1 y2 (by decide : (1:ℕ) ≠ 2))).trans
      ((head_hit f10 hy _ _ _ _).trans
      (total i arg3 arg4 arg6 arg8 arg9 arg10 arg11 X3 X4 X6 X8 k f9 f10 hy p1 a1 _ _ _ _ (off14 i k) _ _)))
  · exact (a3.pass f10 _ _ (hne y1 y2 (by decide : (0:ℕ) ≠ 3))).trans ((a2.pass f10 _ _ (hne y1 y2 (by decide : (0:ℕ) ≠ 2))).trans
      ((a1.pass f10 _ _ (hne y1 y2 (by decide : (0:ℕ) ≠ 1))).trans ((head_hit f10 hy _ _ _ _).trans
      (total i arg3 arg4 arg6 arg8 arg9 arg10 arg11 X3 X4 X6 X8 k f9 f10 hy p0 a0 _ _ _ _ (off12 i k) _ _))))
end
end Cert.FoxIdeal.Strip
-- ==== Proof.FoxMath.lean ====
/- The mathematics of attention computed key block by key block: weights taken against a running reference
   exponent, an accumulator that is rescaled when the reference moves, and the quotient at the end. -/
module

public import Idealize.ShloMosaic.PureOps.Ideal.Laws
public import Mathlib.Analysis.SpecialFunctions.Pow.Real

@[expose] public section

noncomputable section

namespace Cert.FoxMath

open Idealize.ShloMosaic

/-- The power of two that a score has against a reference exponent. -/
def wt (x μ : ℝ) : ℝ := Real.rpow 2 (x - μ)

theorem wt_pos (x μ : ℝ) : 0 < wt x μ := Real.rpow_pos_of_pos two_pos _

/-- Moving the reference exponent multiplies every weight by one factor. -/
theorem wt_mul (x μ ν : ℝ) : wt x μ * wt μ ν = wt x ν := by
  unfold wt
  have := Real.rpow_add (two_pos : (0 : ℝ) < 2) (x - μ) (μ - ν)
  rw [show x - μ + (μ - ν) = x - ν by ring] at this
  exact this.symm

theorem coe_max (x y : ℝ) : max (x : EReal) (y : EReal) = ((max x y : ℝ) : EReal) :=
  (EReal.coe_strictMono.monotone.map_max (a := x) (b := y)).symm

theorem exp2_coe (x : ℝ) : Ideal.exp2 (x : EReal) = ((Real.rpow 2 x : ℝ) : EReal) := rfl

theorem exp2_sub (x μ : ℝ) : Ideal.exp2 ((x : EReal) - (μ : EReal)) = ((wt x μ : ℝ) : EReal) := by
  rw [← EReal.coe_sub]; rfl

/-- A real sum, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of several real numbers, at least one, is real, and so it is with −∞ among them. -/
theorem fold_max_real {ι : Type*} (s : Finset ι) (f : ι → EReal) (hf : ∀ i ∈ s, f i = ⊥ ∨ ∃ r : ℝ, f i = r)
    (hs : ∃ i ∈ s, ∃ r : ℝ, f i = r) : ∃ μ : ℝ, s.fold max ⊥ f = μ := by
  classical
  have key : ∀ t : Finset ι, t ⊆ s → (t.fold max ⊥ f = ⊥ ∧ (∀ i ∈ t, f i = ⊥)) ∨ ∃ μ : ℝ, t.fold max ⊥ f = μ := by
    intro t
    induction t using Finset.induction_on with
    | empty => intro _; left; simp
    | insert a t ha ih =>
      intro hsub
      have ht := ih (fun i hi => hsub (Finset.mem_insert_of_mem hi))
      rw [Finset.fold_insert ha]
      rcases hf a (hsub (Finset.mem_insert_self a t)) with h | ⟨r, h⟩ <;> rcases ht with ⟨h2, h3⟩ | ⟨μ, h2⟩
      · left
        refine ⟨by rw [h, h2]; simp, fun i hi => ?_⟩
        rcases Finset.mem_insert.mp hi with rfl | hi
        · exact h
        · exact h3 i hi
      · right; exact ⟨μ, by rw [h, h2]; simp⟩
      · right; exact ⟨r, by rw [h, h2]; simp⟩
      · right; exact ⟨max r μ, by rw [h, h2, coe_max]⟩
  rcases key s (Finset.Subset.refl s) with ⟨_, h⟩ | h
  · obtain ⟨i, hi, r, hr⟩ := hs
    rw [h i hi] at hr
    exact absurd hr.symm (EReal.coe_ne_bot r)
  · exact h

/-- What one query row's state holds when the keys `J` were seen: one real reference exponent in every lane, and
    in each column of the accumulator the weighted sum of that column over the keys seen. -/
def Seen {n p : ℕ} (S : ℕ → ℝ) (V : ℕ → Fin n → ℝ) (J : Finset ℕ) (M : Fin p → EReal) (A : Fin n → EReal) : Prop :=
  ∃ μ : ℝ, (∀ l, M l = μ) ∧ ∀ d, A d = ((∑ s ∈ J, wt (S s) μ * V s d : ℝ) : EReal)

/-- The first key block: keys up to and including the row's own, of the block that starts at `b`. -/
theorem Seen.first {n p w : ℕ} (S : ℕ → ℝ) (V : ℕ → Fin n → ℝ) (b r : ℕ) (hr : r < w) (M : Fin p → EReal) (A : Fin n → EReal)
    (μ : ℝ) (hM : ∀ l, M l = μ)
    (hA : ∀ d, A d = ∑ c : Fin w, (if c.val ≤ r then ((wt (S (b + c.val)) μ : ℝ) : EReal) else 0) * ((V (b + c.val) d : ℝ) : EReal)) :
    Seen S V (Finset.Icc b (b + r)) M A := by
  refine ⟨μ, hM, fun d => ?_⟩
  have e : ∀ c : Fin w, (if c.val ≤ r then ((wt (S (b + c.val)) μ : ℝ) : EReal) else 0) * ((V (b + c.val) d : ℝ) : EReal)
      = (((fun c : ℕ => if c ≤ r then wt (S (b + c)) μ * V (b + c) d else 0) c.val : ℝ) : EReal) := by
    intro c
    by_cases h : c.val ≤ r
    · simp only [h, if_true]; rw [EReal.coe_mul]
    · simp only [h, if_false]; rw [zero_mul]; rfl
  rw [hA d, Finset.sum_congr rfl (fun c _ => e c), ← coe_sum, Fin.sum_univ_eq_sum_range (fun c : ℕ => if c ≤ r then wt (S (b + c)) μ * V (b + c) d else 0)]
  congr 1
  rw [← Finset.sum_filter]
  symm
  refine Finset.sum_bij' (fun s _ => s - b) (fun c _ => b + c) ?_ ?_ ?_ ?_ ?_
  · intro s hs; simp only [Finset.mem_Icc] at hs; simp only [Finset.mem_filter, Finset.mem_range]; omega
  · intro c hc; simp only [Finset.mem_filter, Finset.mem_range] at hc; simp only [Finset.mem_Icc]; omega
  · intro s hs; simp only [Finset.mem_Icc] at hs; omega
  · intro c _; omega
  · intro s hs; simp only [Finset.mem_Icc] at hs; rw [show b + (s - b) = s by omega]

/-- A further key block, of keys not seen before: the accumulator is rescaled to the new reference exponent and the
    block's weighted columns are added. -/
theorem Seen.next {n p w : ℕ} (S : ℕ → ℝ) (V : ℕ → Fin n → ℝ) (J : Finset ℕ) (b : ℕ) (M M' : Fin p → EReal) (A A' : Fin n → EReal)
    (lane : Fin n → Fin p) (h : Seen S V J M A) (hJ : ∀ c < w, b + c ∉ J)
    (ρ : ℝ) (hM : ∀ l, M' l = max (M l) (ρ : EReal))
    (hA : ∀ d, A' d = A d * Ideal.exp2 (M (lane d) - M' (lane d))
      + ∑ c : Fin w, Ideal.exp2 ((S (b + c.val) : EReal) - max (M (lane d)) (ρ : EReal)) * ((V (b + c.val) d : ℝ) : EReal)) :
    Seen S V (J ∪ Finset.Ico b (b + w)) M' A' := by
  obtain ⟨μ, h1, h2⟩ := h
  have hmax : ∀ l, max (M l) (ρ : EReal) = ((max μ ρ : ℝ) : EReal) := fun l => by rw [h1 l, coe_max]
  refine ⟨max μ ρ, fun l => by rw [hM l, hmax l], fun d => ?_⟩
  have hdisj : Disjoint J (Finset.Ico b (b + w)) := by
    rw [Finset.disjoint_right]
    intro s hs
    simp only [Finset.mem_Ico] at hs
    have := hJ (s - b) (by omega)
    rwa [show b + (s - b) = s by omega] at this
  have e : ∀ c : Fin w, Ideal.exp2 ((S (b + c.val) : EReal) - max (M (lane d)) (ρ : EReal)) * ((V (b + c.val) d : ℝ) : EReal)
      = (((fun c : ℕ => wt (S (b + c)) (max μ ρ) * V (b + c) d) c.val : ℝ) : EReal) := by
    intro c
    rw [hmax, exp2_sub, ← EReal.coe_mul]
  rw [hA d, Finset.sum_congr rfl (fun c _ => e c), ← coe_sum, Fin.sum_univ_eq_sum_range (fun c : ℕ => wt (S (b + c)) (max μ ρ) * V (b + c) d), h2 d, h1, hM, hmax, exp2_sub,
    ← EReal.coe_mul, ← EReal.coe_add, Finset.sum_union hdisj, Finset.sum_mul, Finset.sum_Ico_eq_sum_range]
  congr 2
  · refine Finset.sum_congr rfl fun s _ => ?_
    rw [mul_right_comm, wt_mul]
  · rw [show b + w - b = w by omega]

/-- The quotient of a column's weighted sum by the sum of the weights, in real numbers. -/
theorem Seen.quotient {n p : ℕ} (S : ℕ → ℝ) (V : ℕ → Fin n → ℝ) (J : Finset ℕ) (M : Fin p → EReal) (A : Fin n → EReal)
    (h : Seen S V J M A) (o d : Fin n) (ho : ∀ s, V s o = 1) (hJ : J.Nonempty) (T : ℝ) :
    Ideal.div (A d) (A o) = (((∑ s ∈ J, wt (S s) T * V s d) / (∑ s ∈ J, wt (S s) T) : ℝ) : EReal) := by
  obtain ⟨μ, _, h2⟩ := h
  have e : ∀ s, wt (S s) μ = wt (S s) T * wt T μ := fun s => (wt_mul _ _ _).symm
  have hp : (∑ s ∈ J, wt (S s) T) ≠ 0 := (Finset.sum_pos (fun s _ => wt_pos _ _) hJ).ne'
  have hq : wt T μ ≠ 0 := (wt_pos _ _).ne'
  have e1 : (∑ s ∈ J, wt (S s) μ * V s d) = (∑ s ∈ J, wt (S s) T * V s d) * wt T μ := by
    rw [Finset.sum_mul]; exact Finset.sum_congr rfl fun s _ => by rw [e s]; ring
  have e2 : (∑ s ∈ J, wt (S s) μ * V s o) = (∑ s ∈ J, wt (S s) T) * wt T μ := by
    rw [Finset.sum_mul]; exact Finset.sum_congr rfl fun s _ => by rw [e s, ho]; ring
  rw [h2 d, h2 o, e1, e2, Ideal.div_coe (mul_ne_zero hp hq), ← EReal.coe_mul]
  congr 1
  field_simp

end Cert.FoxMath

end
-- ==== Proof.FoxLoop.lean ====
/- The attention kernel's loop over key blocks: after every trip the scratch memory holds, for each head and query row,
   the weighted sums over the keys seen so far. -/
module

public import proofs.«01_k».proof.Proof.FoxTrip
public import proofs.«01_k».proof.Proof.FoxMath

@[expose] public section

set_option maxRecDepth 16384

noncomputable section

namespace Cert.FoxIdeal.Strip

open Cert.FoxIdeal Cert.FoxIdeal.Gen Idealize.ShloMosaic Idealize.ShloMosaic.TcCoe Idealize.ShloMosaic.Tactic Idealize.SL.Sem Cert.FoxMath

/-- What the reference exponents `M` and the accumulator `A` hold for one head and row when the keys `J` were seen. -/
abbrev Held (S : ℕ → ℝ) (V : ℕ → Fin 256 → ℝ) (J : Finset ℕ) (h : Fin 4) (r : Fin 512) (M : S4x512x128.Idx → EReal)
    (A : S4x512x256.Idx → EReal) : Prop :=
  Seen S V J (fun l : Fin 128 => M (ix3 h r l)) (fun d : Fin 256 => A (ix3 h r d))

/-- One further key block. -/
theorem held_next {S : ℕ → ℝ} {V : ℕ → Fin 256 → ℝ} {J : Finset ℕ} {h : Fin 4} {r : Fin 512} {M : S4x512x128.Idx → EReal}
    {A : S4x512x256.Idx → EReal} (H : Held S V J h r M A) (sc : ℕ → Fin 512 → Fin 512 → EReal) (W : S4x4096x256.Idx → EReal) (b : ℕ)
    (hS : ∀ x : Fin 512, sc h.val r x = ((S (b + x.val) : ℝ) : EReal)) (hV : ∀ s d, vrow W h.val s d = ((V s d : ℝ) : EReal))
    (hJ : ∀ c < 512, b + c ∉ J) : Held S V (J ∪ Finset.Ico b (b + 512)) h r (newTop M sc) (accAfter M A sc W b) := by
  obtain ⟨ρ, hρ⟩ := fold_max_real (Finset.univ : Finset (Fin 512)) (fun x => sc h.val r x) (fun x _ => Or.inr ⟨_, hS x⟩) ⟨0, Finset.mem_univ _, _, hS 0⟩
  have htop : ∀ l, newTop M sc (ix3 h r l) = max (M (ix3 h r l)) (ρ : EReal) := fun l => congrArg (max _) hρ
  refine Seen.next S V J b _ _ _ _ lane H hJ ρ htop fun d => ?_
  obtain ⟨μ, h1, _⟩ := H
  have h1 : ∀ l, M (ix3 h r l) = (μ : EReal) := h1
  refine congrArg (HAdd.hAdd _) (Finset.sum_congr rfl fun x _ => congrArg₂ (· * ·) ?_ (hV _ _))
  show Ideal.exp2 (sc h.val r x - newTop M sc (ix3 h r (lane x))) = _
  rw [htop, hS, h1, h1]

section
variable (𝒱 : Variants) (c : Dev nD) (bd : Option 𝒱.V) (i : grid0.Coords)
  (arg3 : Memref sig .tc .vmem S512x512 .bf16) (harg3 : arg3.IsWhole) (arg4 : Memref sig .tc .vmem S4096x512 .bf16) (harg4 : arg4.IsWhole)
  (arg5 : Memref sig .tc .vmem S4096x512 .bf16) (harg5 : arg5.IsWhole) (arg6 : Memref sig .tc .vmem S1x8x4096 .f32) (harg6 : arg6.IsWhole)
  (arg7 : Memref sig .tc .vmem S512x512 .bf16) (harg7 : arg7.IsWhole) (arg8 : Memref sig .tc .vmem S4x4096x256 .bf16) (harg8 : arg8.IsWhole)
  (arg9 : Memref sig .tc .vmem S4x512x128 .f32) (harg9 : arg9.IsWhole) (arg10 : Memref sig .tc .vmem S4x512x256 .f32) (harg10 : arg10.IsWhole)
  (arg11 : Memref sig .tc .vmem S4x512x512 .bf16) (harg11 : arg11.IsWhole) (w1 w2 w3 w4 : BitVec 32)
  (X3 : BufTy.Contents (Elt Ideal) arg3.view.ty) (X4 : BufTy.Contents (Elt Ideal) arg4.view.ty) (X6 : BufTy.Contents (Elt Ideal) arg6.view.ty)
  (X8 : BufTy.Contents (Elt Ideal) arg8.view.ty)
  (G9 : BufTy.Contents (Elt Ideal) arg9.view.ty) (G10 : BufTy.Contents (Elt Ideal) arg10.view.ty) (G11 : BufTy.Contents (Elt Ideal) arg11.view.ty)

/-- The loop over the key blocks before the query block. -/
theorem loop_held {S : ℕ → ℝ} {V : ℕ → Fin 256 → ℝ} {h : Fin 4} {r : Fin 512}
    (hS : ∀ s, sco (arg3.view.read (Elt Ideal) X3) (arg4.view.read (Elt Ideal) X4) (arg6.view.read (Elt Ideal) X6) (i 1).val h.val r s = ((S s : ℝ) : EReal))
    (hV : ∀ s d, vrow (arg8.view.read (Elt Ideal) X8) h.val s d = ((V s d : ℝ) : EReal))
    (H : Held S V (Finset.Icc (512 * (i 2).val) (512 * (i 2).val + r.val)) h r (arg9.view.read (Elt Ideal) G9) (arg10.view.read (Elt Ideal) G10))
    (k : ℕ) (hk : k ≤ (i 2).val) :
    Held S V (Finset.Icc (512 * (i 2).val) (512 * (i 2).val + r.val) ∪ Finset.Ico 0 (512 * k)) h r
      (arg9.view.read (Elt Ideal) (arg9.view.writes (Elt Ideal) G9 (pb_k0_t1 (F := Ideal) 𝒱 c bd i arg3 harg3 arg4 harg4 arg5 harg5 arg6 harg6 arg7 harg7
        arg8 harg8 arg9 harg9 arg10 harg10 arg11 harg11 w1 w2 w3 X3 X4 X6 X8 G9 G10 G11 k).1))
      (arg10.view.read (Elt Ideal) (arg10.view.writes (Elt Ideal) G10 (pb_k0_t1 (F := Ideal) 𝒱 c bd i arg3 harg3 arg4 harg4 arg5 harg5 arg6 harg6 arg7 harg7
        arg8 harg8 arg9 harg9 arg10 harg10 arg11 harg11 w1 w2 w3 X3 X4 X6 X8 G9 G10 G11 k).2.1)) := by
  induction k with
  | zero => rw [Nat.mul_zero, Finset.Ico_self, Finset.union_empty]; exact H
  | succ k ih =>
    have hk' : k < (k0_t1_loop i).trips := by rw [trips1]; omega
    have e := pb_k0_t1_succ (F := Ideal) 𝒱 c bd i arg3 harg3 arg4 harg4 arg5 harg5 arg6 harg6 arg7 harg7
        arg8 harg8 arg9 harg9 arg10 harg10 arg11 harg11 w1 w2 w3 X3 X4 X6 X8 G9 G10 G11 ⟨k, hk'⟩
    rw [show k + 1 = (⟨k, hk'⟩ : Fin (k0_t1_loop i).trips).val + 1 from rfl, e]
    dsimp only
    rw [View.writes_append, View.writes_append, trip_top, trip_acc]
    have n := held_next (ih (by omega)) (keys i arg3 arg4 arg6 X3 X4 X6 (512 * k)) (arg8.view.read (Elt Ideal) X8) (512 * k) (fun x => hS _) hV
      (fun c hc => by simp only [Finset.mem_union, Finset.mem_Icc, Finset.mem_Ico]; omega)
    rw [Finset.union_assoc, Finset.Ico_union_Ico_eq_Ico (by omega) (by omega)] at n
    exact n

/-- The accumulator after both loops, for one head and row: every key up to the row's own was seen. -/
theorem loops_quotient {S : ℕ → ℝ} {V : ℕ → Fin 256 → ℝ} {h : Fin 4} {r : Fin 512}
    (hS : ∀ s, sco (arg3.view.read (Elt Ideal) X3) (arg4.view.read (Elt Ideal) X4) (arg6.view.read (Elt Ideal) X6) (i 1).val h.val r s = ((S s : ℝ) : EReal))
    (hV : ∀ s d, vrow (arg8.view.read (Elt Ideal) X8) h.val s d = ((V s d : ℝ) : EReal)) (ho : ∀ s, V s 128 = 1)
    (H : Held S V (Finset.Icc (512 * (i 2).val) (512 * (i 2).val + r.val)) h r (arg9.view.read (Elt Ideal) G9) (arg10.view.read (Elt Ideal) G10))
    (d : Fin 256) (T : ℝ) (A : S4x512x256.Idx → EReal)
    (hA : A = arg10.view.read (Elt Ideal) (arg10.view.writes (Elt Ideal) G10 (pb_k0_t1 (F := Ideal) 𝒱 c bd i arg3 harg3 arg4 harg4 arg5 harg5 arg6 harg6 arg7 harg7
        arg8 harg8 arg9 harg9 arg10 harg10 arg11 harg11 w1 w2 w3 X3 X4 X6 X8 G9 G10 G11 (k0_t1_loop i).trips).2.1)) :
    Ideal.div (A (ix3 h r d)) (A (ix3 h r 128))
      = (((∑ s ∈ Finset.range (512 * (i 2).val + r.val + 1), wt (S s) T * V s d) / (∑ s ∈ Finset.range (512 * (i 2).val + r.val + 1), wt (S s) T) : ℝ) : EReal) := by
  subst hA
  rw [trips1]
  have n := loop_held 𝒱 c bd i arg3 harg3 arg4 harg4 arg5 harg5 arg6 harg6 arg7 harg7
        arg8 harg8 arg9 harg9 arg10 harg10 arg11 harg11 w1 w2 w3 X3 X4 X6 X8 G9 G10 G11 hS hV H (i 2).val le_rfl
  have e : Finset.Icc (512 * (i 2).val) (512 * (i 2).val + r.val) ∪ Finset.Ico 0 (512 * (i 2).val) = Finset.range (512 * (i 2).val + r.val + 1) := by
    ext s; simp only [Finset.mem_union, Finset.mem_Icc, Finset.mem_Ico, Finset.mem_range]; omega
  rw [e] at n
  exact Seen.quotient S V _ _ _ n 128 d ho ⟨0, by simp⟩ T
end

end Cert.FoxIdeal.Strip
-- ==== Proof.FoxFirst.lean ====
/- The attention kernel's block under the causal mask: what its stores leave in the scratch memory before the loop. -/
module

public import proofs.«01_k».proof.Proof.FoxLoop
public import proofs.«01_k».proof.Proof.FoxMask

@[expose] public section

set_option maxRecDepth 16384

noncomputable section

namespace Cert.FoxIdeal.Strip

open Cert.FoxIdeal Cert.FoxIdeal.Gen Idealize.ShloMosaic Idealize.ShloMosaic.TcCoe Idealize.ShloMosaic.Tactic Idealize.SL.Sem Cert.FoxMath

/-- A strip's width and the shape conditions of the operations on it. -/
structure Fits (w : ℕ) : Prop where
  hw : w ≤ 512
  hb : (S2 1 w).Broadcasts (S2 64 w)
  hi0 : (S2 64 w).Iotas .tc 32 [0]
  hi1 : (S2 64 w).Iotas .tc 32 [1]
  hr : (S2 64 w).Reduces [1] S64
  hp : (S2 64 w).ShapeCasts (S3 64 w)

theorem fits128 : Fits 128 := ⟨by decide, broadcasts_S1x128_S64x128, iota_S64x128_d0_w32, iota_S64x128_d1_w32, reduces_S64x128_S64, shapeCasts_S64x128_S1x64x128⟩
theorem fits256 : Fits 256 := ⟨by decide, broadcasts_S1x256_S64x256, iota_S64x256_d0_w32, iota_S64x256_d1_w32, reduces_S64x256_S64, shapeCasts_S64x256_S1x64x256⟩
theorem fits384 : Fits 384 := ⟨by decide, broadcasts_S1x384_S64x384, iota_S64x384_d0_w32, iota_S64x384_d1_w32, reduces_S64x384_S64, shapeCasts_S64x384_S1x64x384⟩
theorem fits512 : Fits 512 := ⟨by decide, broadcasts_S1x512_S64x512, iota_S64x512_d0_w32, iota_S64x512_d1_w32, reduces_S64x512_S64, shapeCasts_S64x512_S1x64x512⟩

theorem strip_ok {w o : ℕ} (hw : w ≤ 512) (how : o + 64 ≤ w) : S512x512.Slices ![o, 0] (S2 64 w) := by
  refine ⟨rfl, fun a => ?_⟩
  fin_cases a
  · exact how.trans hw
  · exact (Nat.zero_add _).trans_le hw

/-- The first columns of the decay row. -/
def cut128 (t : FVec Ideal S1x512 .f32) : FVec Ideal (S2 1 128) .f32 := extractStridedSlice S1x128 ![0, 0] t slices_S1x512_o0_0_S1x128
def cut256 (t : FVec Ideal S1x512 .f32) : FVec Ideal (S2 1 256) .f32 := extractStridedSlice S1x256 ![0, 0] t slices_S1x512_o0_0_S1x256
def cut384 (t : FVec Ideal S1x512 .f32) : FVec Ideal (S2 1 384) .f32 := extractStridedSlice S1x384 ![0, 0] t slices_S1x512_o0_0_S1x384
def cut512 (t : FVec Ideal S1x512 .f32) : FVec Ideal (S2 1 512) .f32 := t

theorem cut128_at (t : FVec Ideal S1x512 .f32) (x : Fin 128) : cut128 t (ix2 0 x) = t (ix2 0 ⟨x.val, by omega⟩) := by
  pointwise [cut128]
theorem cut256_at (t : FVec Ideal S1x512 .f32) (x : Fin 256) : cut256 t (ix2 0 x) = t (ix2 0 ⟨x.val, by omega⟩) := by
  pointwise [cut256]
theorem cut384_at (t : FVec Ideal S1x512 .f32) (x : Fin 384) : cut384 t (ix2 0 x) = t (ix2 0 ⟨x.val, by omega⟩) := by
  pointwise [cut384]

section
variable {w o h : ℕ} (F : Fits w) (cut : FVec Ideal S1x512 .f32 → FVec Ideal (S2 1 w) .f32)
  (hcut : ∀ t (x : Fin w), cut t (ix2 0 x) = t (ix2 0 ⟨x.val, x.isLt.trans_le F.hw⟩))
  (spread : FVec Ideal S64x128 .f32 → FVec Ideal (S2 64 w) .f32) (hspread : ∀ t r (x : Fin w), spread t (ix2 r x) = t (ix2 r (lane x)))
  (c2 : FVec Ideal S1x512 .f32) (raw : FVec Ideal S512x512 .f32) (sc : ℕ → Fin 512 → Fin 512 → EReal)
  (hsc : ∀ r x : Fin 512, raw (ix2 r x) * k1 - c2 (ix2 0 x) = sc h r x) (how : o + 64 ≤ w)
include hcut hsc

theorem first_top_piece (inb : ∀ a, ![h, o, 0] a + S1x64x128.size a ≤ S4x512x128.size a) (p : View.Piece (Elt Ideal) S4x512x128 .f32)
    (e : p = ⟨Rect.unit (s := S4x512x128) ![h, o, 0] S1x64x128.size inb,
      rowTopPay w F.hr (masked w o (strip_ok F.hw how) F.hb F.hi0 F.hi1 (cut c2) raw)⟩) (x : p.1.shape.Idx) :
    p.2 x = firstTop sc (p.1.emb x) := by
  subst e
  exact first_block sc (strip_ok F.hw how) F.hb F.hi0 F.hi1 F.hr (cut c2) raw F.hw (fun r x => by rw [hcut]; exact hsc _ _) how inb _ rfl x

include hspread in
theorem first_w_piece (hcw : w = (o / 64 + 2) / 2 * 128) (ho64 : o % 64 = 0)
    (inb : ∀ a, ![h, o, 0] a + (S3 64 w).size a ≤ S4x512x512.size a) (p : View.Piece (Elt Ideal) S4x512x512 .bf16)
    (e : p = ⟨Rect.unit (s := S4x512x512) ![h, o, 0] (S3 64 w).size inb,
      rowWPay w F.hp (masked w o (strip_ok F.hw how) F.hb F.hi0 F.hi1 (cut c2) raw)
        (spread (rowTop w F.hr (masked w o (strip_ok F.hw how) F.hb F.hi0 F.hi1 (cut c2) raw)))⟩) (x : p.1.shape.Idx) :
    p.2 x = firstW sc (p.1.emb x) := by
  subst e
  exact first_weight sc (strip_ok F.hw how) F.hb F.hi0 F.hi1 F.hr F.hp (cut c2) raw F.hw (fun r x => by rw [hcut]; exact hsc _ _) how hcw ho64 inb
    _ (fun r x => hspread _ _ _) _ rfl x
end

theorem zero_piece (sc : ℕ → Fin 512 → Fin 512 → EReal) {h o w w' : ℕ} (hcw : w = (o / 64 + 2) / 2 * 128) (ho64 : o % 64 = 0)
    (hz : (S2 64 w').ShapeCasts (S3 64 w')) (inb : ∀ a, ![h, o, w] a + (S3 64 w').size a ≤ S4x512x512.size a) (p : View.Piece (Elt Ideal) S4x512x512 .bf16)
    (e : p = ⟨Rect.unit (s := S4x512x512) ![h, o, w] (S3 64 w').size inb,
      shapeCast (S3 64 w') (broadcast (S2 64 w') (Scalar.ofBits (F := Ideal) .bf16 0x0000#16)) hz⟩) (x : p.1.shape.Idx) :
    p.2 x = firstW sc (p.1.emb x) := by
  subst e
  refine zero_block sc hcw ho64 inb _ (fun x => ?_) x
  show Ideal.ofBits .bf16 0x0000#16 = 0
  simp [Ideal.ofBits, Ideal.ieee]

section
variable (c : Dev nD) (i : grid0.Coords)
  (arg3 : Memref sig .tc .vmem S512x512 .bf16) (harg3 : arg3.IsWhole) (arg4 : Memref sig .tc .vmem S4096x512 .bf16) (harg4 : arg4.IsWhole)
  (arg6 : Memref sig .tc .vmem S1x8x4096 .f32) (harg6 : arg6.IsWhole)
  (arg9 : Memref sig .tc .vmem S4x512x128 .f32)
  (x0 : Vec Ideal S512x512 .bf16) (x1 : Vec Ideal S4096x512 .bf16) (x3 : Vec Ideal S1x8x4096 .f32)

/-- The scores of the query block's own keys. -/
abbrev own : ℕ → Fin 512 → Fin 512 → EReal := scb x0 x1 x3 (i 1).val (512 * (i 2).val)

theorem own_le : 512 * (i 2).val + 512 ≤ 4096 := by have : (i 2).val < 8 := (i 2).isLt; omega

theorem own0 : Loaded (arg3.view.read (Elt Ideal) (harg3.unread x0)) (arg4.view.read (Elt Ideal) (harg4.unread x1))
    (arg6.view.read (Elt Ideal) (harg6.unread x3)) (i 1).val 0 (512 * (i 2).val) ![0, 0] (k0_off2 i) (k0_off1 i 0#32) inb_S512x512_S512x128_0_0 (k0_off2_inb i) (k0_off1_inb i 0) :=
  scores_load _ _ _ _ _ _ (by decide) (i 1).isLt (own_le i) _ _ _ _ _ _ rfl (off2 i) (off1 i 0 (by decide))
theorem own1 : Loaded (arg3.view.read (Elt Ideal) (harg3.unread x0)) (arg4.view.read (Elt Ideal) (harg4.unread x1))
    (arg6.view.read (Elt Ideal) (harg6.unread x3)) (i 1).val 1 (512 * (i 2).val) ![0, 128] (k0_off4 i) (k0_off1 i 1#32) inb_S512x512_S512x128_0_128 (k0_off4_inb i) (k0_off1_inb i 1) :=
  scores_load _ _ _ _ _ _ (by decide) (i 1).isLt (own_le i) _ _ _ _ _ _ rfl (off4 i) (off1 i 1 (by decide))
theorem own2 : Loaded (arg3.view.read (Elt Ideal) (harg3.unread x0)) (arg4.view.read (Elt Ideal) (harg4.unread x1))
    (arg6.view.read (Elt Ideal) (harg6.unread x3)) (i 1).val 2 (512 * (i 2).val) ![0, 256] (k0_off6 i) (k0_off1 i 2#32) inb_S512x512_S512x128_0_256 (k0_off6_inb i) (k0_off1_inb i 2) :=
  scores_load _ _ _ _ _ _ (by decide) (i 1).isLt (own_le i) _ _ _ _ _ _ rfl (off6 i) (off1 i 2 (by decide))
theorem own3 : Loaded (arg3.view.read (Elt Ideal) (harg3.unread x0)) (arg4.view.read (Elt Ideal) (harg4.unread x1))
    (arg6.view.read (Elt Ideal) (harg6.unread x3)) (i 1).val 3 (512 * (i 2).val) ![0, 384] (k0_off8 i) (k0_off1 i 3#32) inb_S512x512_S512x128_0_384 (k0_off8_inb i) (k0_off1_inb i 3) :=
  scores_load _ _ _ _ _ _ (by decide) (i 1).isLt (own_le i) _ _ _ _ _ _ rfl (off8 i) (off1 i 3 (by decide))

/-- The reference exponents under the mask. -/
theorem first_top (f : BufTy.Contents (Elt Ideal) arg9.view.ty) :
    arg9.view.read (Elt Ideal) (arg9.view.writes (Elt Ideal) f (kernelRun0_A.sl.HS1_32 (F := Ideal) c i arg3 harg3 arg4 harg4 arg6 harg6 x0 x1 x3))
      = firstTop (own i (arg3.view.read (Elt Ideal) (harg3.unread x0)) (arg4.view.read (Elt Ideal) (harg4.unread x1)) (arg6.view.read (Elt Ideal) (harg6.unread x3))) := by
  have h0 := own0 i arg3 harg3 arg4 harg4 arg6 harg6 x0 x1 x3
  have h1 := own1 i arg3 harg3 arg4 harg4 arg6 harg6 x0 x1 x3
  have h2 := own2 i arg3 harg3 arg4 harg4 arg6 harg6 x0 x1 x3
  have h3 := own3 i arg3 harg3 arg4 harg4 arg6 harg6 x0 x1 x3
  funext y
  unfold kernelRun0_A.sl.HS1_32 kernelRun0_A.sl.r_7 k0_pay497
  refine View.read_writes_apply_of_pieces (Val := Elt Ideal) (e := .f32) _ _ (firstTop _) _ (View.PiecesOf.mem ?_) y (View.cover_of_tiledL (s := S4x512x128) _ ![1, 64, 128] (by sl_kernel_rfl) y)
  repeat' apply And.intro
  iterate 2 (· exact first_top_piece fits512 cut512 (fun _ _ => rfl) _ _ _ h3 (by decide) _ _ rfl)
  iterate 2 (· exact first_top_piece fits384 cut384 cut384_at _ _ _ h3 (by decide) _ _ rfl)
  iterate 2 (· exact first_top_piece fits256 cut256 cut256_at _ _ _ h3 (by decide) _ _ rfl)
  iterate 2 (· exact first_top_piece fits128 cut128 cut128_at _ _ _ h3 (by decide) _ _ rfl)
  iterate 2 (· exact first_top_piece fits512 cut512 (fun _ _ => rfl) _ _ _ h2 (by decide) _ _ rfl)
  iterate 2 (· exact first_top_piece fits384 cut384 cut384_at _ _ _ h2 (by decide) _ _ rfl)
  iterate 2 (· exact first_top_piece fits256 cut256 cut256_at _ _ _ h2 (by decide) _ _ rfl)
  iterate 2 (· exact first_top_piece fits128 cut128 cut128_at _ _ _ h2 (by decide) _ _ rfl)
  iterate 2 (· exact first_top_piece fits512 cut512 (fun _ _ => rfl) _ _ _ h1 (by decide) _ _ rfl)
  iterate 2 (· exact first_top_piece fits384 cut384 cut384_at _ _ _ h1 (by decide) _ _ rfl)
  iterate 2 (· exact first_top_piece fits256 cut256 cut256_at _ _ _ h1 (by decide) _ _ rfl)
  iterate 2 (· exact first_top_piece fits128 cut128 cut128_at _ _ _ h1 (by decide) _ _ rfl)
  iterate 2 (· exact first_top_piece fits512 cut512 (fun _ _ => rfl) _ _ _ h0 (by decide) _ _ rfl)
  iterate 2 (· exact first_top_piece fits384 cut384 cut384_at _ _ _ h0 (by decide) _ _ rfl)
  iterate 2 (· exact first_top_piece fits256 cut256 cut256_at _ _ _ h0 (by decide) _ _ rfl)
  iterate 2 (· exact first_top_piece fits128 cut128 cut128_at _ _ _ h0 (by decide) _ _ rfl)
  exact trivial

/-- Each head's masked strips of weights. -/
theorem first_w0 : Strips (e := .bf16) (N := 512)
    (firstW (own i (arg3.view.read (Elt Ideal) (harg3.unread x0)) (arg4.view.read (Elt Ideal) (harg4.unread x1)) (arg6.view.read (Elt Ideal) (harg6.unread x3)))) 0
    (List.drop 14 (kernelRun0_A.sl.HS3_14 (F := Ideal) c i arg3 harg3 arg4 harg4 arg6 harg6 x0 x1 x3)) 8
    (kernelRun0_A.sl.HS3_14 (F := Ideal) c i arg3 harg3 arg4 harg4 arg6 harg6 x0 x1 x3) := by
  have hd := own0 i arg3 harg3 arg4 harg4 arg6 harg6 x0 x1 x3
  unfold kernelRun0_A.sl.HS3_14 kernelRun0_A.sl.r_7 k0_pay497
  iterate 2
    refine .cons _ _ ⟨rfl, rfl, rfl⟩ (first_w_piece fits512 cut512 (fun _ _ => rfl) spread4 spread4_at _ _ _ hd (by decide) (by decide) (by decide) _ _ rfl) ?_
  iterate 2
    refine .two 384 128 _ _ _ ⟨rfl, rfl, rfl⟩ ⟨rfl, rfl, rfl⟩ rfl (zero_piece _ (by decide) (by decide) shapeCasts_S64x128_S1x64x128 _ _ rfl)
      (first_w_piece fits384 cut384 cut384_at spread3 spread3_at _ _ _ hd (by decide) (by decide) (by decide) _ _ rfl) ?_
  iterate 2
    refine .two 256 256 _ _ _ ⟨rfl, rfl, rfl⟩ ⟨rfl, rfl, rfl⟩ rfl (zero_piece _ (by decide) (by decide) shapeCasts_S64x256_S1x64x256 _ _ rfl)
      (first_w_piece fits256 cut256 cut256_at spread2 spread2_at _ _ _ hd (by decide) (by decide) (by decide) _ _ rfl) ?_
  iterate 2
    refine .two 128 384 _ _ _ ⟨rfl, rfl, rfl⟩ ⟨rfl, rfl, rfl⟩ rfl (zero_piece _ (by decide) (by decide) shapeCasts_S64x384_S1x64x384 _ _ rfl)
      (first_w_piece fits128 cut128 cut128_at id spread1_at _ _ _ hd (by decide) (by decide) (by decide) _ _ rfl) ?_
  exact .nil

theorem first_w1 : Strips (e := .bf16) (N := 512)
    (firstW (own i (arg3.view.read (Elt Ideal) (harg3.unread x0)) (arg4.view.read (Elt Ideal) (harg4.unread x1)) (arg6.view.read (Elt Ideal) (harg6.unread x3)))) 1
    (List.drop 14 (kernelRun0_A.sl.HS3_28 (F := Ideal) c i arg3 harg3 arg4 harg4 arg6 harg6 x0 x1 x3)) 8
    (kernelRun0_A.sl.HS3_28 (F := Ideal) c i arg3 harg3 arg4 harg4 arg6 harg6 x0 x1 x3) := by
  have hd := own1 i arg3 harg3 arg4 harg4 arg6 harg6 x0 x1 x3
  unfold kernelRun0_A.sl.HS3_28
  iterate 2
    refine .cons _ _ ⟨rfl, rfl, rfl⟩ (first_w_piece fits512 cut512 (fun _ _ => rfl) spread4 spread4_at _ _ _ hd (by decide) (by decide) (by decide) _ _ rfl) ?_
  iterate 2
    refine .two 384 128 _ _ _ ⟨rfl, rfl, rfl⟩ ⟨rfl, rfl, rfl⟩ rfl (zero_piece _ (by decide) (by decide) shapeCasts_S64x128_S1x64x128 _ _ rfl)
      (first_w_piece fits384 cut384 cut384_at spread3 spread3_at _ _ _ hd (by decide) (by decide) (by decide) _ _ rfl) ?_
  iterate 2
    refine .two 256 256 _ _ _ ⟨rfl, rfl, rfl⟩ ⟨rfl, rfl, rfl⟩ rfl (zero_piece _ (by decide) (by decide) shapeCasts_S64x256_S1x64x256 _ _ rfl)
      (first_w_piece fits256 cut256 cut256_at spread2 spread2_at _ _ _ hd (by decide) (by decide) (by decide) _ _ rfl) ?_
  iterate 2
    refine .two 128 384 _ _ _ ⟨rfl, rfl, rfl⟩ ⟨rfl, rfl, rfl⟩ rfl (zero_piece _ (by decide) (by decide) shapeCasts_S64x384_S1x64x384 _ _ rfl)
      (first_w_piece fits128 cut128 cut128_at id spread1_at _ _ _ hd (by decide) (by decide) (by decide) _ _ rfl) ?_
  exact .nil

theorem first_w2 : Strips (e := .bf16) (N := 512)
    (firstW (own i (arg3.view.read (Elt Ideal) (harg3.unread x0)) (arg4.view.read (Elt Ideal) (harg4.unread x1)) (arg6.view.read (Elt Ideal) (harg6.unread x3)))) 2
    (List.drop 14 (kernelRun0_A.sl.HS3_42 (F := Ideal) c i arg3 harg3 arg4 harg4 arg6 harg6 x0 x1 x3)) 8
    (kernelRun0_A.sl.HS3_42 (F := Ideal) c i arg3 harg3 arg4 harg4 arg6 harg6 x0 x1 x3) := by
  have hd := own2 i arg3 harg3 arg4 harg4 arg6 harg6 x0 x1 x3
  unfold kernelRun0_A.sl.HS3_42
  iterate 2
    refine .cons _ _ ⟨rfl, rfl, rfl⟩ (first_w_piece fits512 cut512 (fun _ _ => rfl) spread4 spread4_at _ _ _ hd (by decide) (by decide) (by decide) _ _ rfl) ?_
  iterate 2
    refine .two 384 128 _ _ _ ⟨rfl, rfl, rfl⟩ ⟨rfl, rfl, rfl⟩ rfl (zero_piece _ (by decide) (by decide) shapeCasts_S64x128_S1x64x128 _ _ rfl)
      (first_w_piece fits384 cut384 cut384_at spread3 spread3_at _ _ _ hd (by decide) (by decide) (by decide) _ _ rfl) ?_
  iterate 2
    refine .two 256 256 _ _ _ ⟨rfl, rfl, rfl⟩ ⟨rfl, rfl, rfl⟩ rfl (zero_piece _ (by decide) (by decide) shapeCasts_S64x256_S1x64x256 _ _ rfl)
      (first_w_piece fits256 cut256 cut256_at spread2 spread2_at _ _ _ hd (by decide) (by decide) (by decide) _ _ rfl) ?_
  iterate 2
    refine .two 128 384 _ _ _ ⟨rfl, rfl, rfl⟩ ⟨rfl, rfl, rfl⟩ rfl (zero_piece _ (by decide) (by decide) shapeCasts_S64x384_S1x64x384 _ _ rfl)
      (first_w_piece fits128 cut128 cut128_at id spread1_at _ _ _ hd (by decide) (by decide) (by decide) _ _ rfl) ?_
  exact .nil

theorem first_w3 : Strips (e := .bf16) (N := 512)
    (firstW (own i (arg3.view.read (Elt Ideal) (harg3.unread x0)) (arg4.view.read (Elt Ideal) (harg4.unread x1)) (arg6.view.read (Elt Ideal) (harg6.unread x3)))) 3
    (List.drop 14 (kernelRun0_A.sl.HS3_56 (F := Ideal) c i arg3 harg3 arg4 harg4 arg6 harg6 x0 x1 x3)) 8
    (kernelRun0_A.sl.HS3_56 (F := Ideal) c i arg3 harg3 arg4 harg4 arg6 harg6 x0 x1 x3) := by
  have hd := own3 i arg3 harg3 arg4 harg4 arg6 harg6 x0 x1 x3
  unfold kernelRun0_A.sl.HS3_56
  iterate 2
    refine .cons _ _ ⟨rfl, rfl, rfl⟩ (first_w_piece fits512 cut512 (fun _ _ => rfl) spread4 spread4_at _ _ _ hd (by decide) (by decide) (by decide) _ _ rfl) ?_
  iterate 2
    refine .two 384 128 _ _ _ ⟨rfl, rfl, rfl⟩ ⟨rfl, rfl, rfl⟩ rfl (zero_piece _ (by decide) (by decide) shapeCasts_S64x128_S1x64x128 _ _ rfl)
      (first_w_piece fits384 cut384 cut384_at spread3 spread3_at _ _ _ hd (by decide) (by decide) (by decide) _ _ rfl) ?_
  iterate 2
    refine .two 256 256 _ _ _ ⟨rfl, rfl, rfl⟩ ⟨rfl, rfl, rfl⟩ rfl (zero_piece _ (by decide) (by decide) shapeCasts_S64x256_S1x64x256 _ _ rfl)
      (first_w_piece fits256 cut256 cut256_at spread2 spread2_at _ _ _ hd (by decide) (by decide) (by decide) _ _ rfl) ?_
  iterate 2
    refine .two 128 384 _ _ _ ⟨rfl, rfl, rfl⟩ ⟨rfl, rfl, rfl⟩ rfl (zero_piece _ (by decide) (by decide) shapeCasts_S64x384_S1x64x384 _ _ rfl)
      (first_w_piece fits128 cut128 cut128_at id spread1_at _ _ _ hd (by decide) (by decide) (by decide) _ _ rfl) ?_
  exact .nil

end

/-- The accumulator under the mask, with the block's values from position `b`. -/
def firstSum (sc : ℕ → Fin 512 → Fin 512 → EReal) (W : S4x4096x256.Idx → EReal) (b : ℕ) : S4x512x256.Idx → EReal := fun y =>
  ∑ x : Fin 512, firstW sc (ix3 (y 0) (y 1) x) * vrow W (y 0).val (b + x.val) (y 2)

/-- For one head and row it holds the keys of its block up to the row's own. -/
theorem first_held {S : ℕ → ℝ} {V : ℕ → Fin 256 → ℝ} {h : Fin 4} {r : Fin 512} (sc : ℕ → Fin 512 → Fin 512 → EReal)
    (W : S4x4096x256.Idx → EReal) (b : ℕ) (hS : ∀ x : Fin 512, sc h.val r x = ((S (b + x.val) : ℝ) : EReal))
    (hV : ∀ s d, vrow W h.val s d = ((V s d : ℝ) : EReal)) : Held S V (Finset.Icc b (b + r.val)) h r (firstTop sc) (firstSum sc W b) := by
  obtain ⟨μ, hμ⟩ := fold_max_real (Finset.univ : Finset (Fin 512)) (fun x => mval sc h.val r x)
    (fun x _ => by
      unfold mval
      split_ifs
      · exact Or.inr ⟨_, hS x⟩
      · exact Or.inl rfl) ⟨r, Finset.mem_univ _, _, by unfold mval; rw [if_pos le_rfl]; exact hS r⟩
  refine Seen.first S V b r.val r.isLt _ _ μ (fun l => hμ) fun d => ?_
  refine Finset.sum_congr rfl fun x _ => congrArg₂ (· * ·) ?_ (hV _ _)
  show (if x.val < cols r.val then Ideal.exp2 (mval sc h.val r x - firstTop sc (ix3 h r (lane x))) else 0) = _
  rw [show firstTop sc (ix3 h r (lane x)) = (μ : EReal) from hμ]
  unfold mval
  by_cases hx : x.val ≤ r.val
  · rw [if_pos (by unfold cols; omega), if_pos hx, if_pos hx, hS, exp2_sub]
  · rw [if_neg hx, if_neg hx]
    split_ifs
    · rfl
    · rfl

section
variable (c : Dev nD) (i : grid0.Coords)
  (arg3 : Memref sig .tc .vmem S512x512 .bf16) (harg3 : arg3.IsWhole) (arg4 : Memref sig .tc .vmem S4096x512 .bf16) (harg4 : arg4.IsWhole)
  (arg6 : Memref sig .tc .vmem S1x8x4096 .f32) (harg6 : arg6.IsWhole) (arg8 : Memref sig .tc .vmem S4x4096x256 .bf16)
  (arg10 : Memref sig .tc .vmem S4x512x256 .f32) (arg11 : Memref sig .tc .vmem S4x512x512 .bf16)
  (x0 : Vec Ideal S512x512 .bf16) (x1 : Vec Ideal S4096x512 .bf16) (x3 : Vec Ideal S1x8x4096 .f32)
  (X8 : BufTy.Contents (Elt Ideal) arg8.view.ty)

/-- The stores of the accumulator under the mask, over any contents of the values' memory. -/
def firstAccs : List (View.Piece (Elt Ideal) S4x512x256 .f32) :=
  [⟨Rect.unit (s := S4x512x256) ![3, 0, 0] S1x512x256.size inb_S4x512x256_S1x512x256_3_0_0,
      k0_pay660 (kernelRun0_A.sl.v1024 (F := Ideal) c i arg3 harg3 arg4 harg4 arg6 harg6 arg11 x0 x1 x3)
        (arg8.view.readAt (Elt Ideal) (Rect.unit (s := S4x4096x256) (k0_off9 i) S1x512x256.size (k0_off9_inb i)).toLoadRect X8)⟩,
    ⟨Rect.unit (s := S4x512x256) ![2, 0, 0] S1x512x256.size inb_S4x512x256_S1x512x256_2_0_0,
      k0_pay611 (kernelRun0_A.sl.v (F := Ideal) c i arg3 harg3 arg4 harg4 arg6 harg6 arg11 x0 x1 x3)
        (arg8.view.readAt (Elt Ideal) (Rect.unit (s := S4x4096x256) (k0_off7 i) S1x512x256.size (k0_off7_inb i)).toLoadRect X8)⟩,
    ⟨Rect.unit (s := S4x512x256) ![1, 0, 0] S1x512x256.size inb_S4x512x256_S1x512x256_1_0_0,
      k0_pay564 (kernelRun0_A.sl.v510 (F := Ideal) c i arg3 harg3 arg4 harg4 arg6 harg6 arg11 x0 x1 x3)
        (arg8.view.readAt (Elt Ideal) (Rect.unit (s := S4x4096x256) (k0_off5 i) S1x512x256.size (k0_off5_inb i)).toLoadRect X8)⟩,
    ⟨Rect.unit (s := S4x512x256) ![0, 0, 0] S1x512x256.size inb_S4x512x256_S1x512x256_0_0_0,
      k0_pay517 (kernelRun0_A.sl.v253 (F := Ideal) c i arg3 harg3 arg4 harg4 arg6 harg6 arg11 x0 x1 x3)
        (arg8.view.readAt (Elt Ideal) (Rect.unit (s := S4x4096x256) (k0_off3 i) S1x512x256.size (k0_off3_inb i)).toLoadRect X8)⟩]

/-- One head's product under the mask. -/
theorem first_total {sc : ℕ → Fin 512 → Fin 512 → EReal} {h : ℕ} (hh : h < 4) {rp Lp : List _}
    (sp : Strips (e := .bf16) (N := 512) (firstW sc) h rp 8 Lp) (ip ov iv) (ev : ov = ![h, 512 * (i 2).val, 0]) (r : Fin 512) (d : Fin 256) :
    firstPay (arg11.view.readCov Lp (Rect.unit (s := S4x512x512) ![h, 0, 0] S1x512x512.size ip).toLoadRect)
        (arg8.view.readAt (Elt Ideal) (Rect.unit (s := S4x4096x256) ov S1x512x256.size iv).toLoadRect X8) (ix3 0 r d)
      = firstSum sc (arg8.view.read (Elt Ideal) X8) (512 * (i 2).val) (ix3 ⟨h, hh⟩ r d) := by
  rw [first_at]
  exact Finset.sum_congr rfl fun x _ => congrArg₂ (· * ·) (sp.load hh ip r x) (values_load _ h _ hh (own_le i) ov iv ev x d)

/-- The accumulator under the mask, as the stores leave it. -/
theorem first_acc (f : BufTy.Contents (Elt Ideal) arg10.view.ty) :
    arg10.view.read (Elt Ideal) (arg10.view.writes (Elt Ideal) f (firstAccs c i arg3 harg3 arg4 harg4 arg6 harg6 arg8 arg11 x0 x1 x3 X8))
      = firstSum (own i (arg3.view.read (Elt Ideal) (harg3.unread x0)) (arg4.view.read (Elt Ideal) (harg4.unread x1)) (arg6.view.read (Elt Ideal) (harg6.unread x3)))
          (arg8.view.read (Elt Ideal) X8) (512 * (i 2).val) := by
  have p0 := first_w0 c i arg3 harg3 arg4 harg4 arg6 harg6 x0 x1 x3
  have p1 := first_w1 c i arg3 harg3 arg4 harg4 arg6 harg6 x0 x1 x3
  have p2 := first_w2 c i arg3 harg3 arg4 harg4 arg6 harg6 x0 x1 x3
  have p3 := first_w3 c i arg3 harg3 arg4 harg4 arg6 harg6 x0 x1 x3
  have pass : ∀ {h : ℕ} {inb : ∀ a, ![h, 0, 0] a + ![1, 512, 256] a ≤ Shape.size ⟨3, ![4, 512, 256]⟩ a} (pay) (L) (a : Fin 4) (r : Fin 512) (d : Fin 256), a.val ≠ h →
      arg10.view.read (Elt Ideal) (arg10.view.writes (Elt Ideal) f (⟨Rect.unit (s := ⟨3, ![4, 512, 256]⟩) ![h, 0, 0] ![1, 512, 256] inb, pay⟩ :: L)) (ix3 a r d)
        = arg10.view.read (Elt Ideal) (arg10.view.writes (Elt Ideal) f L) (ix3 a r d) :=
    fun pay L a r d h => (Strips.nil (e := .f32) (G := fun _ => (0 : EReal))).pass f pay (ix3 a r d) h
  funext y
  unfold firstAccs
  idx_vars y
  obtain ⟨y0, hy⟩ := y0
  rcases (by omega : y0 = 3 ∨ y0 = 2 ∨ y0 = 1 ∨ y0 = 0) with e | e | e | e <;> subst e
  · exact (head_hit f hy _ _ _ _).trans (first_total i arg8 arg11 X8 hy p3 _ _ _ (off9 i) _ _)
  · exact (pass _ _ _ _ _ (by simp)).trans ((head_hit f hy _ _ _ _).trans (first_total i arg8 arg11 X8 hy p2 _ _ _ (off7 i) _ _))
  · exact (pass _ _ _ _ _ (by simp)).trans ((pass _ _ _ _ _ (by simp)).trans ((head_hit f hy _ _ _ _).trans (first_total i arg8 arg11 X8 hy p1 _ _ _ (off5 i) _ _)))
  · exact (pass _ _ _ _ _ (by simp)).trans ((pass _ _ _ _ _ (by simp)).trans ((pass _ _ _ _ _ (by simp)).trans ((head_hit f hy _ _ _ _).trans
      (first_total i arg8 arg11 X8 hy p0 _ _ _ (off3 i) _ _))))
end
end Cert.FoxIdeal.Strip
-- ==== Proof.FoxRun.lean ====
/- One grid point of the attention kernel: the output block it stores and the values it keeps for the later points, as
   functions of its input blocks. -/
module

public import proofs.«01_k».proof.Proof.FoxFirst

@[expose] public section

set_option maxRecDepth 16384

noncomputable section

namespace Cert.FoxIdeal.Strip

open Cert.FoxIdeal Cert.FoxIdeal.Gen Idealize.ShloMosaic Idealize.ShloMosaic.TcCoe Idealize.ShloMosaic.Tactic Idealize.SL.Sem Cert.FoxMath

/-! ## The values with their column of ones -/

/-- The values of each head, then a column of ones, then zeros. -/
def vaug (X : S4096x512.Idx → EReal) : S4x4096x256.Idx → EReal := fun y =>
  if (y 2).val < 128 then X (ix2 (y 1) (Fin.ofNat 512 (128 * (y 0).val + (y 2).val))) else if (y 2).val = 128 then 1 else 0

theorem vaug_left (X : S4096x512.Idx → EReal) (y : S4x4096x256.Idx) (h x : ℕ) (h0 : (y 0).val = h) (h2 : (y 2).val = x) (hx : x < 128) :
    vaug X y = X (ix2 (y 1) (Fin.ofNat 512 (128 * h + x))) := by
  subst h0 h2; exact if_pos hx

theorem vaug_right (X : S4096x512.Idx → EReal) (y : S4x4096x256.Idx) (x : ℕ) (h2 : (y 2).val = 128 + x) :
    vaug X y = if x = 0 then 1 else 0 := by
  unfold vaug
  rw [h2, if_neg (by omega)]
  exact if_congr (by omega) rfl rfl

section
variable (arg5 : Memref sig .tc .vmem S4096x512 .bf16) (X5 : BufTy.Contents (Elt Ideal) arg5.view.ty)

theorem half_index {n : ℕ} (hp : (⟨2, ![4096, n]⟩ : Shape).ShapeCasts ⟨3, ![1, 4096, n]⟩) (x1 : Fin 4096) (x2 : Fin n) :
    Shape.reshapeEquiv hp (ix3 0 x1 x2) = ix2 x1 x2 := by
  have h := ValueIdx.reshapeEquiv_ix2_1ab hp.symm x1 x2
  exact (congrArg (Shape.reshapeEquiv hp) h.symm).trans (by rw [Shape.reshapeEquiv_reshapeEquiv, Shape.reshapeEquiv_self]; rfl)

theorem left_piece {h o : ℕ} (hh : h < 4) (ho : o = 128 * h) (inb : ∀ a, ![h, 0, 0] a + S1x4096x128.size a ≤ S4x4096x256.size a)
    (inb' : ∀ a, ![0, o] a + S4096x128.size a ≤ S4096x512.size a) (p : View.Piece (Elt Ideal) S4x4096x256 .bf16)
    (e : p = ⟨Rect.unit (s := S4x4096x256) ![h, 0, 0] S1x4096x128.size inb,
      shapeCast S1x4096x128 (arg5.view.readAt (Elt Ideal) (Rect.unit (s := S4096x512) ![0, o] S4096x128.size inb').toLoadRect X5)
        shapeCasts_S4096x128_S1x4096x128⟩) (x : p.1.shape.Idx) :
    p.2 x = vaug (arg5.view.read (Elt Ideal) X5) (p.1.emb x) := by
  subst e ho
  idx_vars x
  have v := Rect.idx_unit_val (s := S4x4096x256) ![h, 0, 0] S1x4096x128.size inb (ix3 0 x1 x2)
  obtain rfl : x0 = 0 := Subsingleton.elim _ _
  have hx := x2.isLt
  refine Eq.trans ?_ (vaug_left _ _ h x2.val (v 0) ((v 2).trans (Nat.zero_add _)) hx).symm
  refine (congrArg (arg5.view.readAt (Elt Ideal) (Rect.unit (s := S4096x512) ![0, 128 * h] S4096x128.size inb').toLoadRect X5)
    (half_index (n := 128) shapeCasts_S4096x128_S1x4096x128 x1 x2)).trans ?_
  rw [View.readAt_eq_ld]
  refine View.ld_unit_apply_of _ _ _ _ _ _ fun a => ?_
  fin_cases a
  · exact v 1
  · exact Nat.mod_eq_of_lt (by omega)

/-- The columns after a head's values. -/
def ones : FVec Ideal S4096x128 .bf16 := kernelRun0_A.sl.v1075 (F := Ideal)

theorem first_column : ∀ x : Fin 128, BitVec.setWidth 32 (IntOp.cmpi CmpIPredicate.eq (BitVec.ofNat 32 x.val) 0#32) = if x.val = 0 then 1#32 else 0#32 := by decide

theorem ones_at (s : Fin 4096) (x : Fin 128) : ones (ix2 s x) = if x.val = 0 then 1 else 0 := by
  pointwise [ones, kernelRun0_A.sl.v1075, kernelRun0_A.sl.v1074, kernelRun0_A.sl.v1073, kernelRun0_A.sl.v1070, kernelRun0_A.sl.v1071]
  rw [first_column]
  split <;> simp [FloatOps.sitofp]

theorem right_piece {h : ℕ} (inb : ∀ a, ![h, 0, 128] a + S1x4096x128.size a ≤ S4x4096x256.size a)
    (p : View.Piece (Elt Ideal) S4x4096x256 .bf16)
    (e : p = ⟨Rect.unit (s := S4x4096x256) ![h, 0, 128] S1x4096x128.size inb, shapeCast S1x4096x128 ones shapeCasts_S4096x128_S1x4096x128⟩)
    (x : p.1.shape.Idx) : p.2 x = vaug (arg5.view.read (Elt Ideal) X5) (p.1.emb x) := by
  subst e
  idx_vars x
  have v := Rect.idx_unit_val (s := S4x4096x256) ![h, 0, 128] S1x4096x128.size inb (ix3 0 x1 x2)
  obtain rfl : x0 = 0 := Subsingleton.elim _ _
  refine Eq.trans ?_ (vaug_right _ _ x2.val (v 2)).symm
  refine (congrArg ones (half_index (n := 128) shapeCasts_S4096x128_S1x4096x128 x1 x2)).trans ?_
  exact ones_at x1 x2
end

/-- What the first point of a run stores for the later points. -/
theorem vaug_stored (c : Dev nD) (arg5 : Memref sig .tc .vmem S4096x512 .bf16) (harg5 : arg5.IsWhole) (x2 : Vec Ideal S4096x512 .bf16)
    (v : View sig .tc .vmem S4x4096x256 .bf16) (f : BufTy.Contents (Elt Ideal) v.ty) :
    v.read (Elt Ideal) (v.writes (Elt Ideal) f (kernelRun0_A.sl.HS0_8 (F := Ideal) c arg5 harg5 x2)) = vaug (arg5.view.read (Elt Ideal) (harg5.unread x2)) := by
  funext y
  unfold kernelRun0_A.sl.HS0_8
  refine View.read_writes_apply_of_pieces (Val := Elt Ideal) (e := .bf16) _ _ (vaug _) _ (View.PiecesOf.mem ?_) y (View.cover_of_tiledL (s := S4x4096x256) _ ![1, 4096, 128] (by sl_kernel_rfl) y)
  repeat' apply And.intro
  · exact right_piece _ _ _ _ rfl
  · exact left_piece _ _ (by decide) rfl _ _ _ rfl
  · exact right_piece _ _ _ _ rfl
  · exact left_piece _ _ (by decide) rfl _ _ _ rfl
  · exact right_piece _ _ _ _ rfl
  · exact left_piece _ _ (by decide) rfl _ _ _ rfl
  · exact right_piece _ _ _ _ rfl
  · exact left_piece _ _ (by decide) rfl _ _ _ rfl
  exact trivial

/-! ## The output block -/

/-- The block of quotients: column `128 * h + d` belongs to head `h`. -/
def outOf (Q : Fin 4 → Fin 512 → Fin 128 → EReal) : S512x512.Idx → EReal := fun y =>
  Q (Fin.ofNat 4 ((y 1).val / 128)) (y 0) (Fin.ofNat 128 (y 1).val)

theorem outOf_at (Q : Fin 4 → Fin 512 → Fin 128 → EReal) (y : S512x512.Idx) (h : Fin 4) (r : Fin 512) (d : Fin 128) (h0 : (y 0).val = r.val)
    (h1 : (y 1).val = 128 * h.val + d.val) : outOf Q y = Q h r d := by
  have hd := d.isLt
  have hh := h.isLt
  have e0 : (y 0 : Fin 512) = r := Fin.ext h0
  have e1 : Fin.ofNat 4 ((y 1).val / 128) = h := Fin.ext (by show (y 1).val / 128 % 4 = h.val; omega)
  have e2 : Fin.ofNat 128 (y 1).val = d := Fin.ext (by show (y 1).val % 128 = d.val; omega)
  unfold outOf
  rw [e1, e2]
  exact congrArg (fun z => Q h z d) e0

theorem pay_at (v : Vec Ideal S1x512x256 .f32) (r : Fin 512) (d : Fin 128) :
    k0_pay663 v (ix2 r d) = Ideal.div (v (ix3 0 r ⟨d.val, by omega⟩)) (v (ix3 0 r 128)) := by
  pointwise [k0_pay663]

/-- The quotients over real scores and values: row `r` of the block sees the keys up to its own position. -/
def rowsOf (b : ℕ) (S : Fin 4 → Fin 512 → ℕ → ℝ) (V : Fin 4 → ℕ → Fin 256 → ℝ) (T : ℝ) (h : Fin 4) (r : Fin 512) (d : Fin 128) : EReal :=
  (((∑ s ∈ Finset.range (512 * b + r.val + 1), wt (S h r s) T * V h s ⟨d.val, by omega⟩) / (∑ s ∈ Finset.range (512 * b + r.val + 1), wt (S h r s) T) : ℝ) : EReal)

section
variable (c : Dev nD) (i : grid0.Coords)
  (arg3 : Memref sig .tc .vmem S512x512 .bf16) (harg3 : arg3.IsWhole) (arg4 : Memref sig .tc .vmem S4096x512 .bf16) (harg4 : arg4.IsWhole)
  (arg5 : Memref sig .tc .vmem S4096x512 .bf16) (harg5 : arg5.IsWhole) (arg6 : Memref sig .tc .vmem S1x8x4096 .f32) (harg6 : arg6.IsWhole)
  (arg7 : Memref sig .tc .vmem S512x512 .bf16) (harg7 : arg7.IsWhole) (arg8 : Memref sig .tc .vmem S4x4096x256 .bf16) (harg8 : arg8.IsWhole)
  (arg9 : Memref sig .tc .vmem S4x512x128 .f32) (harg9 : arg9.IsWhole) (arg10 : Memref sig .tc .vmem S4x512x256 .f32) (harg10 : arg10.IsWhole)
  (arg11 : Memref sig .tc .vmem S4x512x512 .bf16) (harg11 : arg11.IsWhole) (w1 w2 w3 w4 : BitVec 32)
  (x0 : Vec Ideal S512x512 .bf16) (x1 : Vec Ideal S4096x512 .bf16) (x2 : Vec Ideal S4096x512 .bf16) (x3 : Vec Ideal S1x8x4096 .f32)
  (X8 : BufTy.Contents (Elt Ideal) arg8.view.ty)

theorem out_piece (Q : Fin 4 → Fin 512 → Fin 128 → EReal) {h o : ℕ} (hh : h < 4) (ho : o = 128 * h)
    (inb : ∀ a, ![0, o] a + S512x128.size a ≤ S512x512.size a) (inb' : ∀ a, ![h, 0, 0] a + S1x512x256.size a ≤ S4x512x256.size a)
    (L : List (View.Piece (Elt Ideal) S4x512x256 .f32))
    (hQ : ∀ (r : Fin 512) (d : Fin 128), Ideal.div (arg10.view.read (Elt Ideal) (arg10.view.writes (Elt Ideal) arg10.view.junk L) (ix3 ⟨h, hh⟩ r ⟨d.val, by omega⟩))
      (arg10.view.read (Elt Ideal) (arg10.view.writes (Elt Ideal) arg10.view.junk L) (ix3 ⟨h, hh⟩ r 128)) = Q ⟨h, hh⟩ r d)
    (p : View.Piece (Elt Ideal) S512x512 .bf16)
    (e : p = ⟨Rect.unit (s := S512x512) ![0, o] S512x128.size inb,
      k0_pay663 (arg10.view.readCov L (Rect.unit (s := S4x512x256) ![h, 0, 0] S1x512x256.size inb').toLoadRect)⟩) (x : p.1.shape.Idx) :
    p.2 x = outOf Q (p.1.emb x) := by
  subst e ho
  idx_vars x
  have v := Rect.idx_unit_val (s := S512x512) ![0, 128 * h] S512x128.size inb (ix2 x0 x1)
  refine Eq.trans ?_ (outOf_at Q _ ⟨h, hh⟩ x0 x1 ((v 0).trans (Nat.zero_add _)) (v 1)).symm
  refine (pay_at _ _ _).trans ?_
  rw [← hQ]
  exact congrArg₂ Ideal.div (congrArg (arg10.view.read (Elt Ideal) _) (head_emb hh inb' x0 _)) (congrArg (arg10.view.read (Elt Ideal) _) (head_emb hh inb' x0 _))

/-- The second loop makes no trip. -/
theorem no_trip (𝒱 : Variants) (bd : Option 𝒱.V) (X3 : BufTy.Contents (Elt Ideal) arg3.view.ty) (X4 : BufTy.Contents (Elt Ideal) arg4.view.ty)
    (X6 : BufTy.Contents (Elt Ideal) arg6.view.ty) (G9 : BufTy.Contents (Elt Ideal) arg9.view.ty) (G10 : BufTy.Contents (Elt Ideal) arg10.view.ty)
    (G11 : BufTy.Contents (Elt Ideal) arg11.view.ty) (n : ℕ) (hn : n = 0) :
    (pb_k0_t2 (F := Ideal) 𝒱 c bd i arg3 harg3 arg4 harg4 arg5 harg5 arg6 harg6 arg7 harg7
        arg8 harg8 arg9 harg9 arg10 harg10 arg11 harg11 w1 w2 w3 w4 X3 X4 X6 X8 G9 G10 G11 n).2.1 = [] := by
  subst hn; rfl

/-- The quotients the point stores, for the stores `P2 ++ (P1 ++ P0)` the accumulator went through. -/
theorem run_quotient {S : Fin 4 → Fin 512 → ℕ → ℝ} {V : Fin 4 → ℕ → Fin 256 → ℝ}
    (hS : ∀ h r s, sco x0 x1 x3 (i 1).val h.val r s = ((S h r s : ℝ) : EReal))
    (hV : ∀ h s d, vrow (arg8.view.read (Elt Ideal) X8) h.val s d = ((V h s d : ℝ) : EReal)) (ho : ∀ h s, V h s 128 = 1)
    (P2 P1 P0 : List (View.Piece (Elt Ideal) S4x512x256 .f32)) (h2 : P2 = []) (h0 : P0 = firstAccs c i arg3 harg3 arg4 harg4 arg6 harg6 arg8 arg11 x0 x1 x3 X8)
    (𝒱 : Variants) (bd : Option 𝒱.V) (G11 : BufTy.Contents (Elt Ideal) arg11.view.ty)
    (h1 : P1 = (pb_k0_t1 (F := Ideal) 𝒱 c bd i arg3 harg3 arg4 harg4 arg5 harg5 arg6 harg6 arg7 harg7 arg8 harg8 arg9 harg9 arg10 harg10 arg11 harg11 w1 w2 w3
      (harg3.unread x0) (harg4.unread x1) (harg6.unread x3) X8
      (arg9.view.writes (Elt Ideal) arg9.view.junk (kernelRun0_A.sl.HS1_32 c i arg3 harg3 arg4 harg4 arg6 harg6 x0 x1 x3))
      (arg10.view.writes (Elt Ideal) arg10.view.junk P0) G11 (k0_t1_loop i).trips).2.1) (T : ℝ) (h : Fin 4) (r : Fin 512) (d : Fin 256) :
    Ideal.div (arg10.view.read (Elt Ideal) (arg10.view.writes (Elt Ideal) arg10.view.junk (P2 ++ (P1 ++ P0))) (ix3 h r d))
        (arg10.view.read (Elt Ideal) (arg10.view.writes (Elt Ideal) arg10.view.junk (P2 ++ (P1 ++ P0))) (ix3 h r 128))
      = (((∑ s ∈ Finset.range (512 * (i 2).val + r.val + 1), wt (S h r s) T * V h s d) / (∑ s ∈ Finset.range (512 * (i 2).val + r.val + 1), wt (S h r s) T) : ℝ) : EReal) := by
  subst h2 h0 h1
  rw [List.nil_append, View.writes_append]
  refine loops_quotient 𝒱 c bd i arg3 harg3 arg4 harg4 arg5 harg5 arg6 harg6 arg7 harg7 arg8 harg8 arg9 harg9 arg10 harg10 arg11 harg11 w1 w2 w3
    (harg3.unread x0) (harg4.unread x1) (harg6.unread x3) X8 _ _ G11 (S := S h r) (V := V h) (h := h) (r := r) ?_ (hV h) (ho h) ?_ d T _ rfl
  · rw [harg3.read_unread, harg4.read_unread, harg6.read_unread]
    exact hS h r
  · rw [first_top, first_acc]
    refine first_held _ _ _ (fun x => ?_) (hV h)
    rw [harg3.read_unread, harg4.read_unread, harg6.read_unread]
    exact hS h r _
/-- The store of one head's columns of the output block. -/
theorem head_store {S : Fin 4 → Fin 512 → ℕ → ℝ} {V : Fin 4 → ℕ → Fin 256 → ℝ}
    (hS : ∀ h r s, sco x0 x1 x3 (i 1).val h.val r s = ((S h r s : ℝ) : EReal))
    (hV : ∀ h s d, vrow (arg8.view.read (Elt Ideal) X8) h.val s d = ((V h s d : ℝ) : EReal)) (ho : ∀ h s, V h s 128 = 1) (T : ℝ)
    {h o : ℕ} (hh : h < 4) (hoh : o = 128 * h)
    (inb : ∀ a, ![0, o] a + S512x128.size a ≤ S512x512.size a) (inb' : ∀ a, ![h, 0, 0] a + S1x512x256.size a ≤ S4x512x256.size a)
    (P2 P1 P0 : List (View.Piece (Elt Ideal) S4x512x256 .f32)) (h2 : P2 = []) (h0 : P0 = firstAccs c i arg3 harg3 arg4 harg4 arg6 harg6 arg8 arg11 x0 x1 x3 X8)
    (𝒱 : Variants) (bd : Option 𝒱.V) (G11 : BufTy.Contents (Elt Ideal) arg11.view.ty)
    (h1 : P1 = (pb_k0_t1 (F := Ideal) 𝒱 c bd i arg3 harg3 arg4 harg4 arg5 harg5 arg6 harg6 arg7 harg7 arg8 harg8 arg9 harg9 arg10 harg10 arg11 harg11 w1 w2 w3
      (harg3.unread x0) (harg4.unread x1) (harg6.unread x3) X8
      (arg9.view.writes (Elt Ideal) arg9.view.junk (kernelRun0_A.sl.HS1_32 c i arg3 harg3 arg4 harg4 arg6 harg6 x0 x1 x3))
      (arg10.view.writes (Elt Ideal) arg10.view.junk P0) G11 (k0_t1_loop i).trips).2.1)
    (p : View.Piece (Elt Ideal) S512x512 .bf16)
    (e : p = ⟨Rect.unit (s := S512x512) ![0, o] S512x128.size inb,
      k0_pay663 (arg10.view.readCov (P2 ++ (P1 ++ P0)) (Rect.unit (s := S4x512x256) ![h, 0, 0] S1x512x256.size inb').toLoadRect)⟩) (x : p.1.shape.Idx) :
    p.2 x = outOf (rowsOf (i 2).val S V T) (p.1.emb x) :=
  out_piece arg10 _ hh hoh inb inb' _ (fun r d => run_quotient c i arg3 harg3 arg4 harg4 arg5 harg5 arg6 harg6 arg7 harg7 arg8 harg8 arg9 harg9 arg10 harg10 arg11 harg11 w1 w2 w3 x0 x1 x3 X8
    hS hV ho P2 P1 P0 h2 h0 𝒱 bd G11 h1 T ⟨h, hh⟩ r _) p e x
end

section
variable (c : Dev nD) (i : grid0.Coords)
  (arg3 : Memref sig .tc .vmem S512x512 .bf16) (harg3 : arg3.IsWhole) (arg4 : Memref sig .tc .vmem S4096x512 .bf16) (harg4 : arg4.IsWhole)
  (arg5 : Memref sig .tc .vmem S4096x512 .bf16) (harg5 : arg5.IsWhole) (arg6 : Memref sig .tc .vmem S1x8x4096 .f32) (harg6 : arg6.IsWhole)
  (arg7 : Memref sig .tc .vmem S512x512 .bf16) (harg7 : arg7.IsWhole) (arg8 : Memref sig .tc .vmem S4x4096x256 .bf16) (harg8 : arg8.IsWhole)
  (arg9 : Memref sig .tc .vmem S4x512x128 .f32) (harg9 : arg9.IsWhole) (arg10 : Memref sig .tc .vmem S4x512x256 .f32) (harg10 : arg10.IsWhole)
  (arg11 : Memref sig .tc .vmem S4x512x512 .bf16) (harg11 : arg11.IsWhole)
  (x0 : Vec Ideal S512x512 .bf16) (x1 : Vec Ideal S4096x512 .bf16) (x2 : Vec Ideal S4096x512 .bf16) (x3 : Vec Ideal S1x8x4096 .f32)
  (xs0 : Vec Ideal S4x4096x256 .bf16)
  {S : Fin 4 → Fin 512 → ℕ → ℝ} {V : Fin 4 → ℕ → Fin 256 → ℝ}

/-- The output block of a run's first point. -/
theorem out_first (hc0 : cond0_0 i) (hS : ∀ h r s, sco x0 x1 x3 (i 1).val h.val r s = ((S h r s : ℝ) : EReal))
    (hV : ∀ h s d, vrow (vaug x2) h.val s d = ((V h s d : ℝ) : EReal)) (ho : ∀ h s, V h s 128 = 1) (T : ℝ) :
    out0_A_4 (F := Ideal) c i arg3 harg3 arg4 harg4 arg5 harg5 arg6 harg6 arg7 harg7 arg8 harg8 arg9 harg9 arg10 harg10 arg11 harg11 hc0 x0 x1 x2 x3
      = outOf (rowsOf (i 2).val S V T) := by
  have hV' : ∀ h s d, vrow (arg8.view.read (Elt Ideal) (arg8.view.writes (Elt Ideal) arg8.view.junk (kernelRun0_A.sl.HS0_8 (F := Ideal) c arg5 harg5 x2))) (Fin.val h) s d
      = ((V h s d : ℝ) : EReal) := by
    rw [vaug_stored, harg5.read_unread]; exact hV
  funext y
  refine View.read_writes_apply_of_pieces (Val := Elt Ideal) (e := .bf16) _ _ (outOf _) _ (View.PiecesOf.mem ?_) y (View.cover_of_tiledL (s := S512x512) _ ![512, 128] (by sl_kernel_rfl) y)
  repeat' apply And.intro
  on_goal 5 => exact trivial
  all_goals
    exact head_store c i arg3 harg3 arg4 harg4 arg5 harg5 arg6 harg6 arg7 harg7 arg8 harg8 arg9 harg9 arg10 harg10 arg11 harg11 _ _ _ x0 x1 x3 _ hS hV' ho T
      (by decide) (by decide) _ _ _ _ _ (no_trip c i arg3 harg3 arg4 harg4 arg5 harg5 arg6 harg6 arg7 harg7 arg8 harg8 arg9 harg9 arg10 harg10 arg11 harg11 _ _ _ _ _ _ _ _ _ _ _ _ _ _ (trips2 i))
      rfl _ _ _ rfl _ rfl

/-- The output block of a later point, over the values `xs0` kept since the first. -/
theorem out_later (hc0 : ¬ cond0_0 i) (hS : ∀ h r s, sco x0 x1 x3 (i 1).val h.val r s = ((S h r s : ℝ) : EReal))
    (hV : ∀ h s d, vrow xs0 h.val s d = ((V h s d : ℝ) : EReal)) (ho : ∀ h s, V h s 128 = 1) (T : ℝ) :
    out0_B_4 (F := Ideal) c i arg3 harg3 arg4 harg4 arg5 harg5 arg6 harg6 arg7 harg7 arg8 harg8 arg9 harg9 arg10 harg10 arg11 harg11 hc0 x0 x1 x2 x3 xs0
      = outOf (rowsOf (i 2).val S V T) := by
  have hV' : ∀ h s d, vrow (arg8.view.read (Elt Ideal) (harg8.unread xs0)) (Fin.val h) s d = ((V h s d : ℝ) : EReal) := by
    rw [harg8.read_unread]; exact hV
  funext y
  refine View.read_writes_apply_of_pieces (Val := Elt Ideal) (e := .bf16) _ _ (outOf _) _ (View.PiecesOf.mem ?_) y (View.cover_of_tiledL (s := S512x512) _ ![512, 128] (by sl_kernel_rfl) y)
  repeat' apply And.intro
  on_goal 5 => exact trivial
  all_goals
    exact head_store c i arg3 harg3 arg4 harg4 arg5 harg5 arg6 harg6 arg7 harg7 arg8 harg8 arg9 harg9 arg10 harg10 arg11 harg11 _ _ _ x0 x1 x3 _ hS hV' ho T
      (by decide) (by decide) _ _ _ _ _ (no_trip c i arg3 harg3 arg4 harg4 arg5 harg5 arg6 harg6 arg7 harg7 arg8 harg8 arg9 harg9 arg10 harg10 arg11 harg11 _ _ _ _ _ _ _ _ _ _ _ _ _ _ (trips2 i))
      rfl _ _ _ rfl _ rfl
end

end Cert.FoxIdeal.Strip
-- ==== Proof.FoxAttn.lean ====
/- Masked attention with a decay, in real numbers: the quotient of two weighted sums over the positions up to the token's own. -/
module

public import proofs.«01_k».proof.Proof.FoxMath
public import proofs.«01_k».proof.FoxIdeal
public import Idealize.ShloMosaic.Lib.Pointwise
public import Idealize.ShloMosaic.Lib.Pipeline.ValueKit

@[expose] public section

noncomputable section

namespace Cert.FoxAttn

open Cert.FoxIdeal Idealize.ShloMosaic Idealize.ShloMosaic.Tactic Cert.FoxMath

/-! ## The attention, in real numbers -/

section
variable (u : S16384x4608.Idx → EReal) (g : S4x8x4096.Idx → EReal)

/-- One entry of the projections, as a real number. -/
def ent (row col : ℕ) : ℝ := (u (ix2 (Fin.ofNat 16384 row) (Fin.ofNat 4608 col))).toReal

/-- One summed gate. -/
def gate (b hd s : ℕ) : ℝ := (g (ix3 (Fin.ofNat 4 b) (Fin.ofNat 8 hd) (Fin.ofNat 4096 s))).toReal

/-- The product of a query with a key. -/
def qk (b hd l s : ℕ) : ℝ := ∑ d : Fin 128, ent u (4096 * b + l) (128 * hd + d.val) * ent u (4096 * b + s % 4096) (1024 + 128 * hd + d.val)

/-- The score to base two, without the query's own gate. -/
def logit (b hd l s : ℕ) : ℝ := qk u b hd l s * ((11863283 / 134217728) * (Real.log 2)⁻¹) - gate g b hd s * (Real.log 2)⁻¹

/-- A value, followed by a column of ones and zeros. -/
def valAt (b hd s : ℕ) (d : Fin 256) : ℝ :=
  if d.val < 128 then ent u (4096 * b + s % 4096) (2048 + 128 * hd + d.val) else if d.val = 128 then 1 else 0

/-- The attention of one token, head and column, the weights relative to the exponent `T`. -/
def attnAt (T : ℝ) (b hd l : ℕ) (d : Fin 256) : ℝ :=
  (∑ s ∈ Finset.range (l + 1), wt (logit u g b hd l s) T * valAt u b hd s d) / (∑ s ∈ Finset.range (l + 1), wt (logit u g b hd l s) T)

/-- The attention of every token. -/
def attn (T : ℝ) : S16384x1024.Idx → EReal := fun y =>
  ((attnAt u g T ((y 0).val / 4096) ((y 1).val / 128) ((y 0).val % 4096) ⟨(y 1).val % 128, by omega⟩ : ℝ) : EReal)

/-- The attention of one entry, its token and column counted out. -/
theorem attn_at (T : ℝ) (y : S16384x1024.Idx) (b hd l : ℕ) (d : Fin 256) (h0 : (y 0).val = 4096 * b + l) (hl : l < 4096)
    (h1 : (y 1).val = 128 * hd + d.val) (hd' : d.val < 128) : attn u g T y = ((attnAt u g T b hd l d : ℝ) : EReal) := by
  have eb : (y 0).val / 4096 = b := by omega
  have el : (y 0).val % 4096 = l := by omega
  have eh : (y 1).val / 128 = hd := by omega
  have ed : (⟨(y 1).val % 128, by omega⟩ : Fin 256) = d := Fin.ext (by show (y 1).val % 128 = d.val; omega)
  unfold attn
  rw [eb, el, eh, ed]
end

/-- Every argument entry is a real number. -/
def AllReal (f : S16384x4608.Idx → EReal) (g : S4x8x4096.Idx → EReal) : Prop :=
  (∀ i, f i = ((f i).toReal : EReal)) ∧ ∀ i, g i = ((g i).toReal : EReal)

/-- An entry of the projections is the real number at its row and column. -/
theorem ent_of (f : S16384x4608.Idx → EReal) (hf : ∀ i, f i = ((f i).toReal : EReal)) (r q : ℕ) (i : S16384x4608.Idx)
    (h0 : (i 0).val = r) (h1 : (i 1).val = q) : f i = ((ent f r q : ℝ) : EReal) := by
  subst h0 h1
  have e : ix2 (Fin.ofNat 16384 (i 0).val) (Fin.ofNat 4608 (i 1).val) = i := by
    idx_vars i
    exact congrArg₂ ix2 (Fin.ext (Nat.mod_eq_of_lt i0.isLt)) (Fin.ext (Nat.mod_eq_of_lt i1.isLt))
  unfold ent
  rw [e]
  exact hf i

/-- A summed gate is the real number at its batch, head and position. -/
theorem gate_of (g : S4x8x4096.Idx → EReal) (hg : ∀ i, g i = ((g i).toReal : EReal)) (b hd s : ℕ) (i : S4x8x4096.Idx)
    (h0 : (i 0).val = b) (h1 : (i 1).val = hd) (h2 : (i 2).val = s) : g i = ((gate g b hd s : ℝ) : EReal) := by
  subst h0 h1 h2
  have e : ix3 (Fin.ofNat 4 (i 0).val) (Fin.ofNat 8 (i 1).val) (Fin.ofNat 4096 (i 2).val) = i := by
    idx_vars i
    have e0 : Fin.ofNat 4 i0.val = i0 := Fin.ext (Nat.mod_eq_of_lt i0.isLt)
    have e1 : Fin.ofNat 8 i1.val = i1 := Fin.ext (Nat.mod_eq_of_lt i1.isLt)
    have e2 : Fin.ofNat 4096 i2.val = i2 := Fin.ext (Nat.mod_eq_of_lt i2.isLt)
    show ix3 (Fin.ofNat 4 i0.val) (Fin.ofNat 8 i1.val) (Fin.ofNat 4096 i2.val) = _
    rw [e0, e1, e2]
  unfold gate
  rw [e]
  exact hg i

end Cert.FoxAttn
-- ==== Proof.FoxValue.lean ====
/- The value of the attention kernel: at every token and head the softmax-weighted sum of the values at the positions up to
   the token's own, in real numbers. -/
module

public import proofs.«01_k».proof.Proof.FoxRun
public import proofs.«01_k».proof.Proof.FoxAttn
public import Idealize.ShloMosaic.Lib.Pipeline.ValueKit
public import Idealize.ShloMosaic.Lib.Pointwise

@[expose] public section

set_option maxRecDepth 16384

noncomputable section

namespace Cert.FoxIdeal.Strip

open Cert.FoxIdeal Cert.FoxIdeal.Gen Idealize.ShloMosaic Idealize.ShloMosaic.TcCoe Idealize.ShloMosaic.Tactic Idealize.SL.Sem Cert.FoxMath Cert.FoxAttn

variable (m : (ℓ : Loc nD τ sig) → Buf (Elt Ideal) ℓ) (c : Dev nD)

/-- The projections and the gates, as the kernel finds them. -/
abbrev U : S16384x4608.Idx → EReal := m ((c : Thread nD τ).loc main_arg0)
abbrev Gt : S4x8x4096.Idx → EReal := m ((c : Thread nD τ).loc main_arg1)

theorem idx : ∀ t : Fin cfg0.N, win0_0.index t = ![8 * (t.val / 16) + t.val % 8, t.val / 8 % 2]
    ∧ win0_1.index t = ![t.val / 16, 2 + t.val / 8 % 2]
    ∧ win0_2.index t = ![t.val / 16, 4 + t.val / 8 % 2]
    ∧ win0_3.index t = ![t.val / 16, 0, 0]
    ∧ win0_4.index t = ![8 * (t.val / 16) + t.val % 8, t.val / 8 % 2] :=
  (by decide +kernel : ∀ t : Fin grid0.N, win0_0.index t = ![8 * (t.val / 16) + t.val % 8, t.val / 8 % 2]
    ∧ win0_1.index t = ![t.val / 16, 2 + t.val / 8 % 2]
    ∧ win0_2.index t = ![t.val / 16, 4 + t.val / 8 % 2]
    ∧ win0_3.index t = ![t.val / 16, 0, 0]
    ∧ win0_4.index t = ![8 * (t.val / 16) + t.val % 8, t.val / 8 % 2])

theorem blk0 (t : Fin cfg0.N) (a : Fin 512) (b : Fin 512) (i : S16384x4608.Idx) (h0 : (i 0).val = 512 * (8 * (t.val / 16) + t.val % 8) + a.val)
    (h1 : (i 1).val = 512 * (t.val / 8 % 2) + b.val) : (iblk m c 0 t : S512x512.Idx → EReal) (ix2 a b) = U m c i := by
  idx_vars i
  blk_point [iblk, V, idx t]

theorem blk1 (t : Fin cfg0.N) (a : Fin 4096) (b : Fin 512) (i : S16384x4608.Idx) (h0 : (i 0).val = 4096 * (t.val / 16) + a.val)
    (h1 : (i 1).val = 512 * (2 + t.val / 8 % 2) + b.val) : (iblk m c 1 t : S4096x512.Idx → EReal) (ix2 a b) = U m c i := by
  idx_vars i
  blk_point [iblk, V, idx t]

theorem blk2 (t : Fin cfg0.N) (a : Fin 4096) (b : Fin 512) (i : S16384x4608.Idx) (h0 : (i 0).val = 4096 * (t.val / 16) + a.val)
    (h1 : (i 1).val = 512 * (4 + t.val / 8 % 2) + b.val) : (iblk m c 2 t : S4096x512.Idx → EReal) (ix2 a b) = U m c i := by
  idx_vars i
  blk_point [iblk, V, idx t]

theorem blk3 (t : Fin cfg0.N) (b : Fin 8) (s : Fin 4096) (i : S4x8x4096.Idx) (h0 : (i 0).val = t.val / 16) (h1 : (i 1).val = b.val)
    (h2 : (i 2).val = s.val) : (iblk m c 3 t : S1x8x4096.Idx → EReal) (ix3 0 b s) = Gt m c i := by
  idx_vars i
  blk_point [iblk, V, idx t]

/-! ## The blocks' scores and values -/

theorem coords_at (t : Fin cfg0.N) : (grid0.coords t 1).val = t.val / 8 % 2 ∧ (grid0.coords t 2).val = t.val % 8 := by
  have e1 : (grid0.coords t 1).val = t.val / 8 % 2 := Pipeline.Grid.coords_val t 1 (by decide) rfl
  have e2 : (grid0.coords t 2).val = t.val / 1 % 8 := Pipeline.Grid.coords_val t 2 (by decide) rfl
  exact ⟨e1, by omega⟩

/-- The scores of a grid point's own heads and rows. -/
theorem scores_at (hf : AllReal (U m c) (Gt m c)) (t : Fin cfg0.N) (h : Fin 4) (r : Fin 512) (s : ℕ) :
    sco (iblk m c 0 t) (iblk m c 1 t) (iblk m c 3 t) (grid0.coords t 1).val h.val r s
      = ((logit (U m c) (Gt m c) (t.val / 16) (4 * (t.val / 8 % 2) + h.val) (512 * (t.val % 8) + r.val) s : ℝ) : EReal) := by
  have ht : t.val < 64 := Nat.lt_of_lt_of_eq t.isLt N_0
  have hh := h.isLt
  have hr := r.isLt
  have hs : s % 4096 < 4096 := Nat.mod_lt _ (by decide)
  rw [(coords_at t).1]
  unfold sco logit qk gate
  refine (congrArg₂ (· - ·) ((congrArg₂ (· * ·) ((Finset.sum_congr rfl fun d _ => ?_).trans (coe_sum _ _).symm) rfl).trans (EReal.coe_mul _ _).symm)
    ((congrArg₂ (· * ·) ?_ rfl).trans (EReal.coe_mul _ _).symm)).trans (EReal.coe_sub _ _).symm
  · have hd := d.isLt
    have e : (Fin.ofNat 512 (128 * h.val + d.val)).val = 128 * h.val + d.val := Nat.mod_eq_of_lt (by omega)
    rw [EReal.coe_mul]
    refine congrArg₂ (· * ·) ?_ ?_
    · rw [blk0 m c t r _ (ix2 ⟨512 * (8 * (t.val / 16) + t.val % 8) + r.val, by omega⟩ ⟨512 * (t.val / 8 % 2) + (128 * h.val + d.val), by omega⟩) rfl (congrArg (HAdd.hAdd _) e.symm)]
      exact ent_of _ hf.1 _ _ _ (by show 512 * (8 * (t.val / 16) + t.val % 8) + r.val = _; omega) (by show 512 * (t.val / 8 % 2) + (128 * h.val + d.val) = _; omega)
    · rw [blk1 m c t _ _ (ix2 ⟨4096 * (t.val / 16) + s % 4096, by omega⟩ ⟨512 * (2 + t.val / 8 % 2) + (128 * h.val + d.val), by omega⟩) rfl (congrArg (HAdd.hAdd _) e.symm)]
      exact ent_of _ hf.1 _ _ _ rfl (by show 512 * (2 + t.val / 8 % 2) + (128 * h.val + d.val) = _; omega)
  · have e := blk3 m c t (Fin.ofNat 8 (4 * (t.val / 8 % 2) + h.val)) (Fin.ofNat 4096 s) (ix3 (Fin.ofNat 4 (t.val / 16)) (Fin.ofNat 8 (4 * (t.val / 8 % 2) + h.val)) (Fin.ofNat 4096 s))
      (Nat.mod_eq_of_lt (by omega)) rfl rfl
    exact e.trans (hf.2 _)

/-- The values of a grid point's own heads. -/
theorem values_at (hf : AllReal (U m c) (Gt m c)) (t : Fin cfg0.N) (h : Fin 4) (s : ℕ) (d : Fin 256) :
    vrow (vaug (iblk m c 2 t)) h.val s d = ((valAt (U m c) (t.val / 16) (4 * (t.val / 8 % 2) + h.val) s d : ℝ) : EReal) := by
  have ht : t.val < 64 := Nat.lt_of_lt_of_eq t.isLt N_0
  have hh := h.isLt
  have hs : s % 4096 < 4096 := Nat.mod_lt _ (by decide)
  have e4 : (Fin.ofNat 4 h.val).val = h.val := Nat.mod_eq_of_lt hh
  unfold vrow valAt
  by_cases hd : d.val < 128
  · rw [if_pos hd]
    refine (vaug_left _ _ h.val d.val e4 rfl hd).trans ?_
    have e : (Fin.ofNat 512 (128 * h.val + d.val)).val = 128 * h.val + d.val := Nat.mod_eq_of_lt (by omega)
    refine (blk2 m c t _ _ (ix2 ⟨4096 * (t.val / 16) + s % 4096, by omega⟩ ⟨512 * (4 + t.val / 8 % 2) + (128 * h.val + d.val), by omega⟩) rfl (congrArg (HAdd.hAdd _) e.symm)).trans ?_
    exact ent_of _ hf.1 _ _ _ rfl (by show 512 * (4 + t.val / 8 % 2) + (128 * h.val + d.val) = _; omega)
  · rw [if_neg hd]
    refine (vaug_right _ _ (d.val - 128) (by show d.val = _; omega)).trans ?_
    by_cases e : d.val = 128
    · rw [if_pos e, if_pos (by omega)]; rfl
    · rw [if_neg e, if_neg (by omega)]; rfl

/-! ## The values kept between points -/

theorem same_values (t t' : Fin cfg0.N) (h16 : t'.val / 16 = t.val / 16) (h8 : t'.val / 8 % 2 = t.val / 8 % 2) :
    (iblk m c 2 t' : S4096x512.Idx → EReal) = iblk m c 2 t := by
  have ht : t.val < 64 := Nat.lt_of_lt_of_eq t.isLt N_0
  funext y
  idx_vars y
  have h0 := y0.isLt
  have h1 := y1.isLt
  rw [blk2 m c t y0 y1 (ix2 ⟨4096 * (t.val / 16) + y0.val, by omega⟩ ⟨512 * (4 + t.val / 8 % 2) + y1.val, by omega⟩) rfl rfl]
  exact blk2 m c t' y0 y1 _ (by rw [h16]; rfl) (by rw [h8]; rfl)

theorem kept_first (t : Fin cfg0.N) (h0 : t.val % 8 = 0) : (outsAt0 m c t.val t.isLt).2 = vaug (iblk m c 2 t) := by
  refine (congrArg Prod.snd (outsAt0_A m c t h0)).trans ?_
  refine (vaug_stored c (ms0_2 t) (hs0_2 t) (iblk m c 2 t) VS0_0 VS0_0.junk).trans ?_
  rw [(hs0_2 t).read_unread]

/-- Every point leaves its own head group's values, with their column of ones. -/
theorem kept (n : ℕ) (hn : n < cfg0.N) : (outsAt0 m c n hn).2 = vaug (iblk m c 2 ⟨n, hn⟩) := by
  induction n with
  | zero => exact kept_first m c ⟨0, hn⟩ rfl
  | succ n ih =>
    by_cases h0 : (n + 1) % 8 = 0
    · exact kept_first m c ⟨n + 1, hn⟩ h0
    · refine (congrArg Prod.snd (outsAt0_B m c ⟨n + 1, hn⟩ h0)).trans ?_
      refine (ih (Nat.lt_of_succ_lt hn)).trans (congrArg vaug (same_values m c _ _ ?_ ?_)) <;> dsimp only <;> omega

/-! ## The final array -/

/-- A block's attention, at an entry of the whole array. -/
theorem block_attn (u : S16384x4608.Idx → EReal) (g : S4x8x4096.Idx → EReal) (T : ℝ) (b p i : ℕ) (hi : i < 8) (y : S512x512.Idx) (q : S16384x1024.Idx)
    (h0 : (q 0).val = 4096 * b + 512 * i + (y 0).val) (h1 : (q 1).val = 512 * p + (y 1).val) :
    outOf (rowsOf i (fun h r => logit u g b (4 * p + h.val) (512 * i + r.val)) (fun h => valAt u b (4 * p + h.val)) T) y = attn u g T q := by
  have hy0 : (y 0).val < 512 := (y 0).isLt
  have hy1 : (y 1).val < 512 := (y 1).isLt
  rw [attn_at u g T q b (4 * p + (y 1).val / 128) (512 * i + (y 0).val) ⟨(y 1).val % 128, by omega⟩ (by omega) (by omega) (by dsimp only; omega) (by dsimp only; omega)]
  unfold outOf
  rw [show Fin.ofNat 4 ((y 1).val / 128) = ⟨(y 1).val / 128, by omega⟩ from Fin.ext (Nat.mod_eq_of_lt (by omega))]
  rfl

/-- After the run the result array is the attention, relative to any exponent `T`. -/
theorem final (hf : AllReal (U m c) (Gt m c)) (T : ℝ) : (dats m 0 c).arrAt 4 cfg0.N = attn (U m c) (Gt m c) T := by
  refine (dats m 0 c).arrAt_eq_of_covers 4 _ (by decide +kernel) fun t hf' y => ?_
  have ho : ∀ (h : Fin 4) s, valAt (U m c) (t.val / 16) (4 * (t.val / 8 % 2) + h.val) s 128 = 1 := fun h s => rfl
  have out : (dats m 0 c).after 4 t = outOf (rowsOf (t.val % 8) (fun h r => logit (U m c) (Gt m c) (t.val / 16) (4 * (t.val / 8 % 2) + h.val) (512 * (t.val % 8) + r.val))
      (fun h => valAt (U m c) (t.val / 16) (4 * (t.val / 8 % 2) + h.val)) T) := by
    rw [after0_4, ← (coords_at t).2]
    by_cases h0 : t.val % 8 = 0
    · rw [outsAt0_A m c t h0]
      exact out_first c _ _ _ _ _ _ _ _ _ _ _ _ _ _ _ _ _ _ _ _ _ _ _ ((hcond0_0 t).mpr h0) (by rw [(coords_at t).2]; exact scores_at m c hf t) (values_at m c hf t) ho T
    · rw [outsAt0_B m c t h0]
      refine out_later c _ _ _ _ _ _ _ _ _ _ _ _ _ _ _ _ _ _ _ _ _ (iblk m c 2 t) _ _ (fun h => h0 ((hcond0_0 t).mp h)) (by rw [(coords_at t).2]; exact scores_at m c hf t) ?_ ho T
      rw [kept, same_values m c t _ (by dsimp only; omega) (by dsimp only; omega)]
      exact values_at m c hf t
  blk_simp
  rw [out]
  have hv0 : ((((win0_4.blk t).view.emb y) 0 : Fin _) : ℕ) = 512 * (8 * (t.val / 16) + t.val % 8) + (y 0).val := by blk_simp [idx t]; ring
  have hv1 : ((((win0_4.blk t).view.emb y) 1 : Fin _) : ℕ) = 512 * (t.val / 8 % 2) + (y 1).val := by blk_simp [idx t]; ring
  generalize (win0_4.blk t).view.emb y = q at hv0 hv1 ⊢
  exact block_attn (U m c) (Gt m c) T (t.val / 16) (t.val / 8 % 2) (t.val % 8) (Nat.mod_lt _ (by decide)) y q (by rw [hv0]; ring) hv1

end Cert.FoxIdeal.Strip
-- ==== Proof.FoxRef.lean ====
/- The value of the attention's reference: the softmax of each masked row of scores, in real numbers, as the kernel's own
   quotient with the row's maximum for its reference exponent. -/
module

public import proofs.«01_k».proof.Proof.FoxAttn
public import proofs.«01_k».proof.Proof.Gen.FoxRefIdeal.Read
public import Idealize.ShloMosaic.Lib.KernelVsHost
public import Idealize.ShloMosaic.Lib.WordCmp

@[expose] public section

set_option maxRecDepth 16384

noncomputable section

namespace Cert.FoxRefIdeal.Soft

open Cert.FoxRefIdeal Cert.FoxRefIdeal.Gen Cert.FoxRefIdeal.Read Idealize.ShloMosaic Idealize.ShloMosaic.TcCoe Idealize.ShloMosaic.Tactic Cert.FoxMath Cert.FoxAttn

/-! ## The sums, in real numbers -/

/-- A weight to base `e` is the weight to base two of the scaled exponents. -/
theorem exp_wt (x y : ℝ) : Real.exp (x - y) = wt (x * (Real.log 2)⁻¹) (y * (Real.log 2)⁻¹) := by
  have h : Real.log 2 ≠ 0 := (Real.log_pos one_lt_two).ne'
  show _ = (2 : ℝ) ^ (x * (Real.log 2)⁻¹ - y * (Real.log 2)⁻¹)
  rw [Real.rpow_def_of_pos two_pos]
  congr 1
  field_simp

/-- A sum over all positions of terms that are zero after `l` is the sum up to `l`. -/
theorem sum_cut (l : ℕ) (hl : l < 4096) (f : ℕ → ℝ) :
    ∑ k : Fin 4096, (if k.val ≤ l then f k.val else 0) = ∑ s ∈ Finset.range (l + 1), f s := by
  rw [Fin.sum_univ_eq_sum_range (fun k => if k ≤ l then f k else 0) 4096, ← Finset.sum_filter]
  refine Finset.sum_congr (Finset.ext fun s => ?_) fun _ _ => rfl
  simp only [Finset.mem_filter, Finset.mem_range]
  omega

variable (u : (⟨S16384x4608, .bf16⟩ : BufTy).Contents (Elt Ideal)) (g : (⟨S4x8x4096, .f32⟩ : BufTy).Contents (Elt Ideal))

/-- The score of a position, the query's own gate included. -/
def full (b hd l s : ℕ) : ℝ := qk u b hd l s * (11863283 / 134217728) + (gate g b hd l - gate g b hd s)

theorem full_logit (b hd l s : ℕ) (μ : ℝ) :
    Real.exp (full u g b hd l s - μ) = wt (logit u g b hd l s) ((μ - gate g b hd l) * (Real.log 2)⁻¹) := by
  rw [show full u g b hd l s - μ = (qk u b hd l s * (11863283 / 134217728) - gate g b hd s) - (μ - gate g b hd l) by unfold full; ring, exp_wt]
  refine congrArg (wt · _) ?_
  unfold logit
  ring

/-! ## The queries, keys and values -/

section
variable (hf : AllReal u g)
include hf

theorem query (i : S4x4096x8x128.Idx) :
    val_main_v2 (F := Ideal) u i = ((ent u (4096 * (i 0).val + (i 1).val) (128 * (i 2).val + (i 3).val) : ℝ) : EReal) := by
  have h0 : (i 0).val < 4 := (i 0).isLt
  have h1 : (i 1).val < 4096 := (i 1).isLt
  have h2 : (i 2).val < 8 := (i 2).isLt
  have h3 : (i 3).val < 128 := (i 3).isLt
  rw [val_main_v2_apply, val_main_v1_apply, val_main_v0_apply]
  refine ent_of u hf.1 _ _ _ ?_ ?_
  · show ((((i 0).val * 4096 + (i 1).val) * 8 + (i 2).val) * 128 + (i 3).val) / 1024 = _
    omega
  · show ((((i 0).val * 4096 + (i 1).val) * 8 + (i 2).val) * 128 + (i 3).val) % 1024 = _
    omega

theorem key (i : S4x4096x8x128.Idx) :
    val_main_v5 (F := Ideal) u i = ((ent u (4096 * (i 0).val + (i 1).val) (1024 + 128 * (i 2).val + (i 3).val) : ℝ) : EReal) := by
  have h0 : (i 0).val < 4 := (i 0).isLt
  have h1 : (i 1).val < 4096 := (i 1).isLt
  have h2 : (i 2).val < 8 := (i 2).isLt
  have h3 : (i 3).val < 128 := (i 3).isLt
  rw [val_main_v5_apply, val_main_v4_apply, val_main_v3_apply]
  refine ent_of u hf.1 _ _ _ ?_ ?_
  · show ((((i 0).val * 4096 + (i 1).val) * 8 + (i 2).val) * 128 + (i 3).val) / 1024 = _
    omega
  · show 1024 + ((((i 0).val * 4096 + (i 1).val) * 8 + (i 2).val) * 128 + (i 3).val) % 1024 = _
    omega

theorem value (i : S4x4096x8x128.Idx) :
    val_main_v8 (F := Ideal) u i = ((ent u (4096 * (i 0).val + (i 1).val) (2048 + 128 * (i 2).val + (i 3).val) : ℝ) : EReal) := by
  have h0 : (i 0).val < 4 := (i 0).isLt
  have h1 : (i 1).val < 4096 := (i 1).isLt
  have h2 : (i 2).val < 8 := (i 2).isLt
  have h3 : (i 3).val < 128 := (i 3).isLt
  rw [val_main_v8_apply, val_main_v7_apply, val_main_v6_apply]
  refine ent_of u hf.1 _ _ _ ?_ ?_
  · show ((((i 0).val * 4096 + (i 1).val) * 8 + (i 2).val) * 128 + (i 3).val) / 1024 = _
    omega
  · show 2048 + ((((i 0).val * 4096 + (i 1).val) * 8 + (i 2).val) * 128 + (i 3).val) % 1024 = _
    omega

/-! ## The scores under the mask -/

theorem product (i : S4x8x4096x4096.Idx) :
    val_main_v9 (F := Ideal) u i = ((qk u (i 0).val (i 1).val (i 2).val (i 3).val : ℝ) : EReal) := by
  have h3 : (i 3).val < 4096 := (i 3).isLt
  rw [val_main_v9_apply]
  unfold qk
  rw [coe_sum]
  refine Finset.sum_congr rfl fun k _ => ?_
  rw [query u g hf, key u g hf, EReal.coe_mul, Nat.mod_eq_of_lt h3]

omit hf in
theorem factor : (FloatOps.ofBits .f32 0x3DB504F3#32 : Ideal .f32) = (((11863283 / 134217728 : ℝ)) : EReal) := by
  show Ideal.ofBits .f32 0x3DB504F3#32 = _
  simp [Ideal.ofBits, Ideal.ieee]
  rw [← EReal.coe_mul]
  norm_num

theorem score (i : S4x8x4096x4096.Idx) :
    val_main_v17 (F := Ideal) u g i = ((full u g (i 0).val (i 1).val (i 2).val (i 3).val : ℝ) : EReal) := by
  rw [val_main_v17_apply, val_main_v11_apply, val_main_v16_apply, val_main_v10_apply, val_main_cst_apply, val_main_v14_apply, val_main_v15_apply,
    val_main_v12_apply, val_main_v13_apply, product u g hf]
  rw [gate_of g hf.2 (i 0).val (i 1).val (i 2).val (idx_main_v12 (idx_main_v14 i)) rfl rfl rfl,
    gate_of g hf.2 (i 0).val (i 1).val (i 3).val (idx_main_v13 (idx_main_v15 i)) rfl rfl rfl, factor]
  unfold full
  rw [EReal.coe_add, EReal.coe_mul, EReal.coe_sub]
  rfl

theorem masked (i : S4x8x4096x4096.Idx) :
    val_main_v24 (F := Ideal) u g i
      = if (i 3).val ≤ (i 2).val then ((full u g (i 0).val (i 1).val (i 2).val (i 3).val : ℝ) : EReal) else ⊥ := by
  have h2 : (i 2).val < 4096 := (i 2).isLt
  have h3 : (i 3).val < 4096 := (i 3).isLt
  rw [val_main_v24_apply, score u g hf, val_main_call0_v1_apply, val_main_v23_apply, val_main_v21_apply, val_main_v22_apply, val_main_v19_apply,
    val_main_v20_apply, val_main_v18_apply, val_main_v18_apply, val_main_call0_v2_apply, val_main_call0_v0_apply, val_main_cst_0_apply]
  have e : IntOp.cmpi .sle (BitVec.ofNat 32 (i 3).val) (BitVec.ofNat 32 (i 2).val) = BitVec.ofBool (decide ((i 3).val ≤ (i 2).val)) :=
    WordCmp.cmpi_sle_ofNat (by norm_num; omega) (by norm_num; omega)
  refine (congrArg (fun b => Scalar.select b _ _) e).trans ?_
  by_cases h : (i 3).val ≤ (i 2).val
  · rw [if_pos h, decide_eq_true h]; rfl
  · rw [if_neg h, decide_eq_false h]
    show Ideal.ofBits .f32 0xFF800000#32 = ⊥
    simp [Ideal.ofBits, Ideal.ieee]

/-! ## The softmax -/

/-- A row's maximum is a real number. -/
theorem top (j : S4x8x4096.Idx) : ∃ μ : ℝ, val_main_v27 (F := Ideal) u g j = μ := by
  have hj : (j 2).val < 4096 := (j 2).isLt
  have neg : (FloatOps.ofBits .f32 0xFF800000#32 : Ideal .f32) = (⊥ : EReal) := by
    show Ideal.ofBits .f32 0xFF800000#32 = ⊥
    simp [Ideal.ofBits, Ideal.ieee]
  have hr : S4x8x4096x4096.Reduces [3] S4x8x4096 := by decide
  have e : val_main_v25 (F := Ideal) u g j
      = (Finset.univ : Finset (Fin 4096)).fold max ⊥ (fun k => val_main_v24 (F := Ideal) u g (idx_main_v32 j k)) := by
    have hφ : FKind.Formats .f32 := Or.inl rfl
    have fold : ∀ x : FVec Ideal S4x8x4096x4096 .f32, Host.reduce FloatOps.maximumf x (constant S_ .f32 0xFF800000#32) reducesTo_S4x8x4096x4096_S4x8x4096_d3 h_S_ j
        = (Finset.univ : Finset (Fin 4096)).fold max ⊥ (fun k => x (idx_main_v32 j k)) := fun x => by
      refine (congrFun (hostReduce_maximumf_eq_multiReduction x 0xFF800000#32 reducesTo_S4x8x4096x4096_S4x8x4096_d3 h_S_ hr hφ rfl) j).trans ?_
      refine (Ideal.multiReduction_maximumf_single x 0xFF800000#32 hr hφ rfl j).trans ?_
      rw [neg]
      refine congrArg (fun f => Finset.fold max (⊥ : EReal) f (Finset.univ : Finset (Fin 4096))) (funext fun k => ?_)
      exact congrArg x (funext fun a => Fin.ext (by match a with | ⟨0, _⟩ => rfl | ⟨1, _⟩ => rfl | ⟨2, _⟩ => rfl | ⟨3, _⟩ => rfl))
    exact fold _
  obtain ⟨μ, hμ⟩ := fold_max_real (Finset.univ : Finset (Fin 4096)) (fun k => val_main_v24 (F := Ideal) u g (idx_main_v32 j k))
    (fun k _ => by
      rw [masked u g hf]
      split_ifs
      · exact Or.inr ⟨_, rfl⟩
      · exact Or.inl rfl)
    ⟨⟨(j 2).val, hj⟩, Finset.mem_univ _, _, by rw [masked u g hf]; exact if_pos le_rfl⟩
  refine ⟨μ, ?_⟩
  rw [val_main_v27_apply, val_main_v26_apply, val_main_cst_2_apply, e, hμ, neg]
  exact max_eq_right bot_le

/-- The weight of a position, zero after the row's own. -/
def weight (T : ℝ) (b hd l s : ℕ) : ℝ := if s ≤ l then wt (logit u g b hd l s) T else 0

theorem expo (j : S4x8x4096.Idx) (μ : ℝ) (hμ : val_main_v27 (F := Ideal) u g j = μ) (k : Fin 4096) :
    val_main_v31 (F := Ideal) u g (idx_main_v32 j k)
      = ((weight u g ((μ - gate g (j 0).val (j 1).val (j 2).val) * (Real.log 2)⁻¹) (j 0).val (j 1).val (j 2).val k.val : ℝ) : EReal) := by
  rw [val_main_v31_apply, val_main_v30_apply, val_main_v29_apply, val_main_v28_apply, masked u g hf,
    show idx_main_v28 (idx_main_v29 (idx_main_v32 j k)) = j from funext fun a => Fin.ext (by match a with | ⟨0, _⟩ => rfl | ⟨1, _⟩ => rfl | ⟨2, _⟩ => rfl), hμ]
  unfold weight
  by_cases h : k.val ≤ (j 2).val
  · rw [if_pos (show ((idx_main_v32 j k) 3).val ≤ ((idx_main_v32 j k) 2).val from h), if_pos h, ← full_logit]
    rfl
  · rw [if_neg (show ¬ ((idx_main_v32 j k) 3).val ≤ ((idx_main_v32 j k) 2).val from h), if_neg h]
    rfl

/-- One row of the result, against the row's maximum. -/
theorem row (j : S4x8x4096.Idx) (μ : ℝ) (hμ : val_main_v27 (F := Ideal) u g j = μ) (i : S4x8x128x4096.Idx)
    (h0 : (i 0).val = (j 0).val) (h1 : (i 1).val = (j 1).val) (h3 : (i 3).val = (j 2).val) (d : Fin 256) (hd : d.val = (i 2).val) :
    val_main_v36 (F := Ideal) u g i
      = ((attnAt u g ((μ - gate g (j 0).val (j 1).val (j 2).val) * (Real.log 2)⁻¹) (j 0).val (j 1).val (j 2).val d : ℝ) : EReal) := by
  have hl : (j 2).val < 4096 := (j 2).isLt
  have hd' : (i 2).val < 128 := (i 2).isLt
  generalize hT : (μ - gate g (j 0).val (j 1).val (j 2).val) * (Real.log 2)⁻¹ = T
  have hD : 0 < ∑ s ∈ Finset.range ((j 2).val + 1), wt (logit u g (j 0).val (j 1).val (j 2).val s) T :=
    Finset.sum_pos (fun _ _ => wt_pos _ _) ⟨0, Finset.mem_range.mpr (Nat.succ_pos _)⟩
  have hsum : val_main_v32 (F := Ideal) u g j = ((∑ s ∈ Finset.range ((j 2).val + 1), wt (logit u g (j 0).val (j 1).val (j 2).val s) T : ℝ) : EReal) := by
    rw [val_main_v32_apply, val_main_cst_3_apply, Finset.sum_congr rfl fun k _ => expo u g hf j μ hμ k, hT, ← coe_sum]
    unfold weight
    rw [sum_cut _ hl (fun s => wt (logit u g (j 0).val (j 1).val (j 2).val s) T)]
    rw [show (FloatOps.ofBits .f32 0x00000000#32 : Ideal .f32) = (0 : EReal) by
      show Ideal.ofBits .f32 0x00000000#32 = 0
      simp [Ideal.ofBits, Ideal.ieee], zero_add]
  rw [val_main_v36_apply]
  have term : ∀ k : Fin 4096, val_main_v8 (F := Ideal) u (lidx_main_v36 i k) * val_main_v35 (F := Ideal) u g (ridx_main_v36 i k)
      = (((if k.val ≤ (j 2).val then wt (logit u g (j 0).val (j 1).val (j 2).val k.val) T * valAt u (j 0).val (j 1).val k.val d
          / ∑ s ∈ Finset.range ((j 2).val + 1), wt (logit u g (j 0).val (j 1).val (j 2).val s) T else 0) : ℝ) : EReal) := by
    intro k
    rw [value u g hf, val_main_v35_apply, val_main_v34_apply, val_main_v33_apply,
      show idx_main_v33 (idx_main_v34 (ridx_main_v36 i k)) = j from funext fun a => Fin.ext (by match a with | ⟨0, _⟩ => exact h0 | ⟨1, _⟩ => exact h1 | ⟨2, _⟩ => exact h3),
      show ridx_main_v36 i k = idx_main_v32 j k from funext fun a => Fin.ext (by match a with | ⟨0, _⟩ => exact h0 | ⟨1, _⟩ => exact h1 | ⟨2, _⟩ => exact h3 | ⟨3, _⟩ => rfl),
      expo u g hf j μ hμ k, hT, hsum]
    refine (congrArg (HMul.hMul _) (Ideal.div_coe hD.ne' _)).trans ?_
    rw [← EReal.coe_mul, ← EReal.coe_mul]
    refine congrArg Real.toEReal ?_
    unfold weight valAt
    rw [if_pos (show d.val < 128 by omega), hd]
    show ent u (4096 * (i 0).val + k.val) (2048 + 128 * (i 1).val + (i 2).val) * _ = _
    rw [h0, h1, Nat.mod_eq_of_lt k.isLt]
    split_ifs <;> ring
  rw [Finset.sum_congr rfl fun k _ => term k, ← coe_sum,
    sum_cut _ hl (fun s => wt (logit u g (j 0).val (j 1).val (j 2).val s) T * valAt u (j 0).val (j 1).val s d
          / ∑ s ∈ Finset.range ((j 2).val + 1), wt (logit u g (j 0).val (j 1).val (j 2).val s) T), ← Finset.sum_div]
  rfl

/-- Every entry of the reference is the attention, relative to some exponent. -/
theorem reference (y : S16384x1024.Idx) : ∃ T : ℝ, val_main_v39 (F := Ideal) u g y = attn u g T y := by
  have hy0 : (y 0).val < 16384 := (y 0).isLt
  have hy1 : (y 1).val < 1024 := (y 1).isLt
  obtain ⟨μ, hμ⟩ := top u g hf (ix3 ⟨(y 0).val / 4096, by omega⟩ ⟨(y 1).val / 128, by omega⟩ ⟨(y 0).val % 4096, by omega⟩)
  refine ⟨(μ - gate g ((y 0).val / 4096) ((y 1).val / 128) ((y 0).val % 4096)) * (Real.log 2)⁻¹, ?_⟩
  rw [val_main_v39_apply, val_main_v38_apply, val_main_v37_apply]
  refine (row u g hf _ μ hμ _ ?_ ?_ ?_ ⟨(y 1).val % 128, by omega⟩ ?_).trans rfl
  · show ((y 0).val * 1024 + (y 1).val) / 4194304 = (y 0).val / 4096
    omega
  · show ((y 0).val * 1024 + (y 1).val) / 128 % 8 = (y 1).val / 128
    omega
  · show ((y 0).val * 1024 + (y 1).val) / 1024 % 4096 = (y 0).val % 4096
    omega
  · show (y 1).val % 128 = ((y 0).val * 1024 + (y 1).val) % 128
    omega
end

end Cert.FoxRefIdeal.Soft
-- ==== Proof.FoxAgree.lean ====
/- The attention kernel and its reference end with one array, when every argument entry is a real number; and the
   precondition of the claim says that they are. -/
module

public import proofs.«01_k».proof.Proof.FoxValue
public import proofs.«01_k».proof.Proof.FoxRef
public import proofs.«01_k».proof.Pre_fox_finite
public import Idealize.ShloMosaic.Lib.ReduceAll

@[expose] public section

noncomputable section

namespace Cert.FoxIdeal.Strip

open Cert.FoxIdeal Cert.FoxIdeal.Gen Idealize.ShloMosaic Idealize.ShloMosaic.TcCoe Idealize.SL.Sem Cert.FoxAttn

/-- A number whose absolute value is below +∞ is real. -/
theorem real_of_below (x : EReal) (h : Ideal.cmp .olt (max x (-x)) (Ideal.ofBits .f32 0x7F800000#32) = 1#1) : x = (x.toReal : EReal) := by
  have inf : Ideal.ofBits .f32 0x7F800000#32 = ⊤ := by simp [Ideal.ofBits, Ideal.ieee]
  rw [inf] at h
  induction x with
  | bot => simp [Ideal.cmp] at h
  | coe r => rfl
  | top => simp [Ideal.cmp] at h

/-- The precondition says that every argument entry is a real number. -/
theorem real_of_finite [Cert.Pre_fox_finite.Facts] (u : FVec Ideal Cert.Pre_fox_finite.S16384x4608 .bf16) (g : FVec Ideal Cert.Pre_fox_finite.S4x8x4096 .f32)
    (h : Cert.Pre_fox_finite.fn (F := Ideal) u g = fun _ => 1#1) : AllReal u g := by
  haveI : Subsingleton Cert.Pre_fox_finite.S_.Idx := ⟨fun a b => funext fun i => i.elim0⟩
  obtain ⟨h0, h1⟩ := IntOp.andi_eq_one.1 (congrFun h (fun a => a.elim0))
  exact ⟨fun i => real_of_below _ (Host.reduce_andi_all _ _ _ _ _ h0 i), fun i => real_of_below _ (Host.reduce_andi_all _ _ _ _ _ h1 i)⟩

variable (m : (ℓ : Loc nD τ sig) → Buf (Elt Ideal) ℓ) (c : Dev nD)

/-- What the reference computes, on the kernel's own arguments. -/
abbrev G : (⟨S16384x1024, .bf16⟩ : BufTy).Contents (Elt Ideal) :=
  Cert.FoxRefIdeal.Read.val_main_v39 (F := Ideal) (m ((c : Thread nD τ).loc main_arg0)) (m ((c : Thread nD τ).loc main_arg1))

/-- After the run the kernel's result is the reference's. -/
theorem agree (hf : AllReal (U m c) (Gt m c)) : (dats m 0 c).arrAt 4 cfg0.N = G m c := funext fun y => by
  obtain ⟨T, hT⟩ := Cert.FoxRefIdeal.Soft.reference (U m c) (Gt m c) hf y
  exact (congrFun (final m c hf T) y).trans hT.symm

end Cert.FoxIdeal.Strip
-- ==== Proof.GatesRef.lean ====
/- What the reference of the program Gates computes: the running sum of the log-sigmoids over each sequence. -/
module

public import proofs.«01_k».proof.Proof.Gen.GatesRefIdeal.Read
public import Idealize.ShloMosaic.Lib.Pointwise
public import Idealize.ShloMosaic.Lib.IdealHost

@[expose] public section

set_option maxRecDepth 16384

noncomputable section

namespace Cert.GatesRefIdeal.Running

open Cert.GatesRefIdeal Idealize.ShloMosaic

/-- The shape of the windows that the running sum is made of. -/
abbrev W : Shape := ⟨3, ![1, 4096, 1]⟩

/-- A window is counted along its one long axis. -/
theorem sum_window (f : W.Idx → EReal) : ∑ w : W.Idx, f w = ∑ k : Fin 4096, f (ix3 0 k 0) := by
  refine Fintype.sum_equiv ⟨fun w => w 1, fun k => ix3 0 k 0, fun w => ?_, fun k => rfl⟩ _ _ fun w => ?_
  · funext a
    match a with
    | ⟨0, _⟩ => exact Subsingleton.elim (α := Fin 1) _ _
    | ⟨1, _⟩ => rfl
    | ⟨2, _⟩ => exact Subsingleton.elim (α := Fin 1) _ _
  · refine congrArg f (funext fun a => ?_)
    match a with
    | ⟨0, _⟩ => exact Subsingleton.elim (α := Fin 1) _ _
    | ⟨1, _⟩ => rfl
    | ⟨2, _⟩ => exact Subsingleton.elim (α := Fin 1) _ _

/-- Adding up a list of numbers from a first number on. -/
theorem foldl_add {α : Type} (g : α → EReal) (l : List α) (a : EReal) : l.foldl (fun r n => r + g n) a = a + (l.map g).sum := by
  induction l generalizing a with
  | nil => simp
  | cons x l ih => simp [ih, add_assoc]

/-- A sum whose first terms are absent is the sum of the others. -/
theorem tail_sum (F : ℕ → EReal) (n p L : ℕ) (h : n + p = L) :
    (∑ i ∈ Finset.range (n + (p + 1)), if L ≤ p + i then F (p + i - L) else 0) = ∑ q ∈ Finset.range (p + 1), F q := by
  rw [Finset.sum_range_add, Finset.sum_eq_zero fun i hi => if_neg (by have := Finset.mem_range.1 hi; omega), zero_add]
  exact Finset.sum_congr rfl fun i _ => (if_pos (by omega)).trans (congrArg F (by omega))

/-- The windowed sum whose window reaches back to the beginning is the running sum. -/
theorem window (X : S4x4096x128.Idx → EReal) (F : ℕ → EReal)
    (h : S4x4096x128.ReduceWindows ![1, 4096, 1] ![1, 1, 1] ![0, 4095, 0] ![0, 0, 0] S4x4096x128) (b : Fin 4) (p : Fin 4096) (j : Fin 128)
    (hF : ∀ q : Fin 4096, X (ix3 b q j) = F q.val) :
    Ideal.hostReduceWindowAdd ![1, 4096, 1] ![1, 1, 1] ![0, 4095, 0] ![0, 0, 0] h X 0 (ix3 b p j) = ∑ q ∈ Finset.range (p.val + 1), F q := by
  have hp := p.isLt
  refine (foldl_add _ _ _).trans ?_
  rw [← Fin.sum_univ_def, ← Equiv.sum_comp (W.rowMajor), zero_add]
  refine (sum_window _).trans (Eq.trans (Finset.sum_congr rfl fun k _ => ?_) (Finset.sum_range (fun k => if 4095 ≤ p.val + k then F (p.val + k - 4095) else 0)).symm |>.trans ?_)
  · have hk := k.isLt
    have hb := b.isLt
    have hj := j.isLt
    simp only [Equiv.symm_apply_apply]
    by_cases c : 4095 ≤ p.val + k.val
    · rw [if_pos c]
      refine (dif_pos fun a => ?_).trans ?_
      · match a with
        | ⟨0, _⟩ => show 0 ≤ b.val * 1 + 0 ∧ b.val * 1 + 0 - 0 < 4; omega
        | ⟨1, _⟩ => show 4095 ≤ p.val * 1 + k.val ∧ p.val * 1 + k.val - 4095 < 4096; omega
        | ⟨2, _⟩ => show 0 ≤ j.val * 1 + 0 ∧ j.val * 1 + 0 - 0 < 128; omega
      · refine Eq.trans (congrArg X (funext fun a => Fin.ext ?_)) (hF ⟨p.val + k.val - 4095, by omega⟩)
        match a with
        | ⟨0, _⟩ => show b.val * 1 + 0 - 0 = b.val; omega
        | ⟨1, _⟩ => show p.val * 1 + k.val - 4095 = p.val + k.val - 4095; omega
        | ⟨2, _⟩ => show j.val * 1 + 0 - 0 = j.val; omega
    · rw [if_neg c]
      refine dif_neg fun a => c ?_
      have a1 : 4095 ≤ p.val * 1 + k.val := (a 1).1
      omega
  · exact (congrArg (fun N => ∑ i ∈ Finset.range N, if 4095 ≤ p.val + i then F (p.val + i - 4095) else 0)
      (by omega : 4096 = (4095 - p.val) + (p.val + 1))).trans (tail_sum F (4095 - p.val) p.val 4095 (by omega))

/-- The logarithm of the sigmoid. -/
def logSig (s : EReal) : EReal := min s 0 - Ideal.log (1 + Ideal.exp (0 - max s (-s)))

/-- The softplus: the logarithm of one plus the exponential. -/
def soft (s : EReal) : EReal := max s 0 + Ideal.log (1 + Ideal.exp (0 - max s (-s)))

/-- The logarithm in both is a real number. -/
theorem log_real (s : EReal) : ∃ r : ℝ, Ideal.log (1 + Ideal.exp (0 - max s (-s))) = (r : EReal) := by
  have e0 : Ideal.exp ⊥ = 0 := rfl
  have l1 : Ideal.log 1 = ((0 : ℝ) : EReal) :=
    (if_neg (not_le.2 one_pos) : Ideal.log ((1 : ℝ) : EReal) = ((Real.log 1 : ℝ) : EReal)).trans (congrArg _ Real.log_one)
  induction s with
  | bot => exact ⟨0, by simpa [e0] using l1⟩
  | top => exact ⟨0, by simpa [e0] using l1⟩
  | coe x =>
    refine ⟨Real.log (1 + Real.exp (0 - max x (-x))), ?_⟩
    have e : (0 : EReal) - max (x : EReal) (-(x : EReal)) = ((0 - max x (-x) : ℝ) : EReal) := by
      push_cast
      rfl
    rw [e]
    show Ideal.log (((1 : ℝ) : EReal) + ((Real.exp (0 - max x (-x)) : ℝ) : EReal)) = _
    rw [← EReal.coe_add]
    exact if_neg (not_le.2 (by positivity))

/-- The log-sigmoid is never +∞. -/
theorem logSig_ne_top (s : EReal) : logSig s ≠ ⊤ := by
  obtain ⟨r, h⟩ := log_real s
  rw [logSig, h, sub_eq_add_neg, ← EReal.coe_neg]
  exact (EReal.add_lt_top (ne_of_lt (lt_of_le_of_lt (min_le_right _ _) EReal.zero_lt_top)) (EReal.coe_ne_top _)).ne

/-- The softplus as the reference writes it. -/
theorem soft_eq (y : EReal) : Scalar.select (Ideal.cmp .une (y - 0) (y - 0)) (y + 0)
    (max y 0 + Ideal.log1p (Ideal.exp (-max (y - 0) (-(y - 0))))) = soft y := by
  have h : Ideal.cmp .une (y - 0) (y - 0) = 0#1 := by simp [Ideal.cmp]
  refine (Scalar.select_of_eq_zero h _ _).trans ?_
  rw [sub_zero, soft, Ideal.log1p, zero_sub]

/-- The log-sigmoid is the negated softplus of the negated number. -/
theorem neg_soft (s : EReal) : -soft (-s) = logSig s := by
  obtain ⟨r, h⟩ := log_real s
  have hm : max (-s) (-(-s)) = max s (-s) := by rw [neg_neg, max_comm]
  have hz : max (-s) 0 = -min s 0 := by
    rcases le_total s 0 with c | c
    · rw [min_eq_left c, max_eq_left (EReal.neg_le_neg_iff.1 (by simpa using c))]
    · rw [min_eq_right c, neg_zero, max_eq_right (EReal.neg_le_neg_iff.1 (by simpa using c))]
  rw [soft, logSig, hm, hz, h, EReal.neg_add (.inr (EReal.coe_ne_top _)) (.inr (EReal.coe_ne_bot _)), neg_neg]

section
variable (x0 : (⟨S16384x4096, .bf16⟩ : BufTy).Contents (Elt Ideal)) (x1 : (⟨S4x4096x128, .bf16⟩ : BufTy).Contents (Elt Ideal)) (x2 : (⟨S1x128, .f32⟩ : BufTy).Contents (Elt Ideal))

/-- The word of zeros is zero. -/
theorem zero_bits : Ideal.ofBits .f32 0x00000000#32 = 0 := by simp [Ideal.ofBits, Ideal.ieee]

/-- The reference's softplus. -/
theorem softplus_at (i : S16384x128.Idx) : Read.val_main_v13 x0 x1 x2 i = soft (Read.val_main_v6 x0 x1 x2 i) := by
  refine Eq.trans ?_ (soft_eq _)
  rw [← zero_bits]
  rfl

/-- The reference's log-sigmoid. -/
theorem logsig_at (i : S16384x128.Idx) : Read.val_main_v7 x0 x1 x2 i = logSig (Read.val_main_v6 x0 x1 x2 i) := by
  refine Eq.trans ?_ ((congrArg Neg.neg (soft_eq (-Read.val_main_v6 x0 x1 x2 i))).trans (neg_soft _))
  rw [← zero_bits]
  rfl

/-- The log-sigmoids by the number of their row. -/
def rowSig (j : Fin 128) (n : ℕ) : EReal := logSig (Read.val_main_v6 x0 x1 x2 (ix2 (Fin.ofNat 16384 n) j))

/-- The reference's running sum at a token is the sum of the log-sigmoids of its sequence up to that token. -/
theorem running (b : Fin 4) (p : Fin 4096) (j : Fin 128) :
    Read.val_main_v9 x0 x1 x2 (ix3 b p j) = ∑ q ∈ Finset.range (p.val + 1), rowSig x0 x1 x2 j (4096 * b.val + q) := by
  have z : ∀ i, Read.val_main_call1_call0_v0 (F := Ideal) i = 0 := fun i => by
    rw [Read.val_main_call1_call0_v0_apply, Read.val_main_call1_call0_cst_apply]; simp [Ideal.ofBits, Ideal.ieee]
  unfold Read.val_main_v9 Host.reduceWindowAdd
  rw [z, Ideal.hostReduceWindowAdd_def]
  refine window _ (fun q => rowSig x0 x1 x2 j (4096 * b.val + q)) _ b p j fun q => ?_
  have hq := q.isLt
  have hb := b.isLt
  have hj := j.isLt
  rw [Read.val_main_v8_apply, logsig_at]
  refine congrArg (fun i => logSig (Read.val_main_v6 x0 x1 x2 i)) (funext fun a => Fin.ext ?_)
  match a with
  | ⟨0, _⟩ => show ((b.val * 4096 + q.val) * 128 + j.val) / 128 = (4096 * b.val + q.val) % 16384; omega
  | ⟨1, _⟩ => show ((b.val * 4096 + q.val) * 128 + j.val) % 128 = j.val; omega

/-- The reference's first result: running sums in the first eight lanes, softplus in the others. -/
theorem result_rows (n : Fin 16384) (j : Fin 128) :
    Read.val_main_v16 x0 x1 x2 (ix2 n j) = if j.val < 8 then ∑ q ∈ Finset.range (n.val % 4096 + 1), rowSig x0 x1 x2 j (4096 * (n.val / 4096) + q)
      else soft (Read.val_main_v6 x0 x1 x2 (ix2 n j)) := by
  have hn := n.isLt
  have hj := j.isLt
  have e : Read.idx_main_v16 (ix2 n j) = ix3 ⟨n.val / 4096, by omega⟩ ⟨n.val % 4096, by omega⟩ j := funext fun a => Fin.ext (match a with
    | ⟨0, _⟩ => by show (n.val * 128 + j.val) / 524288 = n.val / 4096; omega
    | ⟨1, _⟩ => by show (n.val * 128 + j.val) / 128 % 4096 = n.val % 4096; omega
    | ⟨2, _⟩ => by show (n.val * 128 + j.val) % 128 = j.val; omega)
  have e' : Read.idx_main_v14 (ix3 ⟨n.val / 4096, by omega⟩ ⟨n.val % 4096, by omega⟩ j) = ix2 n j := funext fun a => Fin.ext (match a with
    | ⟨0, _⟩ => by show ((n.val / 4096 * 4096 + n.val % 4096) * 128 + j.val) / 128 = n.val; omega
    | ⟨1, _⟩ => by show ((n.val / 4096 * 4096 + n.val % 4096) * 128 + j.val) % 128 = j.val; omega)
  have l : Read.val_main_v12 (F := Ideal) (ix1 j) = BitVec.ofBool (decide (j.val < 8)) :=
    (by decide +kernel : ∀ j : Fin 128, IntOp.cmpi CmpIPredicate.slt (BitVec.ofNat 32 j.val) 8#32 = BitVec.ofBool (decide (j.val < 8))) j
  have l' : Read.idx_main_call3_v0 (ix3 ⟨n.val / 4096, by omega⟩ ⟨n.val % 4096, by omega⟩ j) = ix1 j := funext fun a => match a with
    | ⟨0, _⟩ => rfl
  rw [Read.val_main_v16_apply, e, Read.val_main_v15_apply, Read.val_main_v14_apply, e', softplus_at, running, Read.val_main_call3_v0_apply, l', l,
    Scalar.select_ofBool]
  exact if_congr (by simp) rfl rfl

/-- The reference's second result: the running sums of the first eight lanes, with the sequence last. -/
theorem result_lanes (b : Fin 4) (j : Fin 8) (p : Fin 4096) :
    Read.val_main_v18 x0 x1 x2 (ix3 b j p) = ∑ q ∈ Finset.range (p.val + 1), rowSig x0 x1 x2 ⟨j.val, by omega⟩ (4096 * b.val + q) := by
  rw [← running x0 x1 x2 b p, Read.val_main_v18_apply, Read.val_main_v17_apply]
  refine congrArg (Read.val_main_v9 x0 x1 x2) (funext fun a => ?_)
  match a with
  | ⟨0, _⟩ => rfl
  | ⟨1, _⟩ => rfl
  | ⟨2, _⟩ => rfl
end

end Cert.GatesRefIdeal.Running

end
-- ==== Proof.GatesValue.lean ====
/- The value of the program Gates: the softplus of each token's gate, and for the first eight lanes the running sum of the
   log-sigmoids over the sequence, which is carried from row block to row block. -/
module

public import proofs.«01_k».proof.Proof.Gen.GatesIdeal.Value
public import proofs.«01_k».proof.Proof.GatesRef
public import proofs.«01_k».proof.Pre_lower_ones
public import Idealize.ShloMosaic.Lib.ReduceAll
public import Idealize.ShloMosaic.Lib.Pipeline.ValueKit
public import Idealize.ShloMosaic.Lib.Pointwise

@[expose] public section

set_option maxRecDepth 16384

noncomputable section

namespace Cert.GatesIdeal.Running

open Cert.GatesIdeal Cert.GatesIdeal.Gen Idealize.ShloMosaic Idealize.ShloMosaic.TcCoe Idealize.SL.Sem Cert.GatesRefIdeal.Running

/-- The matrix with ones on and below its diagonal and zeros above it. -/
abbrev LowerOnes (T : FVec Ideal S512x512 .bf16) : Prop := ∀ r q : Fin 512, T (ix2 r q) = if q.val ≤ r.val then 1 else 0

/-- A comparison that came out true is an equality. -/
theorem eq_of_bool {a b : EReal} [Decidable (a = b)] (h : BitVec.ofBool (decide (a = b)) = 1#1) : a = b := by
  by_contra n
  rw [decide_eq_false n] at h
  exact absurd h (by decide)

/-- The precondition says that the last argument is that matrix. -/
theorem lower_of_pre [Cert.Pre_lower_ones.Facts] (u : FVec Ideal Cert.Pre_lower_ones.S16384x4096 .bf16) (w : FVec Ideal Cert.Pre_lower_ones.S4x4096x128 .bf16)
    (b : FVec Ideal Cert.Pre_lower_ones.S1x128 .f32) (T : FVec Ideal Cert.Pre_lower_ones.S512x512 .bf16)
    (h : Cert.Pre_lower_ones.fn (F := Ideal) u w b T = fun _ => 1#1) : LowerOnes T := by
  haveI : Subsingleton Cert.Pre_lower_ones.S_.Idx := ⟨fun a b => funext fun i => i.elim0⟩
  intro r q
  have e := Host.reduce_andi_all _ _ _ _ _ (congrFun h (fun a => a.elim0)) (ix2 r q)
  pointwise [Cert.Pre_lower_ones.fn_where] at e
  have e' := eq_of_bool e
  rw [id_eq] at e'
  pointwise at e'
  rw [WordCmp.cmpi_sle_ofNat (by norm_num; omega) (by norm_num; omega)] at e'
  rw [e', Scalar.select_ofBool]
  simp

/-- A number that is not +∞, with what is lost of it added back twice, is the number. -/
theorem split_sum (L : EReal) (h : L ≠ ⊤) : L + ((L - L) + ((L - L) - (L - L))) = L := by
  induction L with
  | bot => rfl
  | coe r => rw [← EReal.coe_sub, ← EReal.coe_sub, ← EReal.coe_add, ← EReal.coe_add]; simp
  | top => exact absurd rfl h

/-- A row of the matrix of ones adds up the numbers up to its own place. -/
theorem sum_lower (T : FVec Ideal S512x512 .bf16) (hT : LowerOnes T) (r : Fin 512) (f : ℕ → EReal) (hf : ∀ n, f n ≠ ⊤) :
    (∑ q : Fin 512, T (ix2 r q) * f q.val) + ((∑ q : Fin 512, T (ix2 r q) * (f q.val - f q.val))
      + ∑ q : Fin 512, T (ix2 r q) * ((f q.val - f q.val) - (f q.val - f q.val))) = ∑ q ∈ Finset.range (r.val + 1), f q := by
  have hr := r.isLt
  rw [← Finset.sum_add_distrib, ← Finset.sum_add_distrib,
    Finset.sum_congr rfl fun q _ => (show _ = (fun q => if q ≤ r.val then f q else 0) q.val by
      rw [hT]
      dsimp only
      split
      · simp only [one_mul]; exact split_sum _ (hf _)
      · simp)]
  rw [← Finset.sum_range (fun q => if q ≤ r.val then f q else 0), ← Finset.sum_filter]
  refine Finset.sum_congr (Finset.ext fun q => ?_) fun _ _ => rfl
  rw [Finset.mem_filter, Finset.mem_range, Finset.mem_range]
  omega

variable (m : (ℓ : Loc nD τ sig) → Buf (Elt Ideal) ℓ) (c : Dev nD)

/-- The gates' product and bias that the reference computes, on the kernel's own arguments. -/
abbrev Sg : (⟨S16384x128, .f32⟩ : BufTy).Contents (Elt Ideal) :=
  Cert.GatesRefIdeal.Read.val_main_v6 (F := Ideal) (m ((c : Thread nD τ).loc main_arg0)) (m ((c : Thread nD τ).loc main_arg1)) (m ((c : Thread nD τ).loc main_arg2))

/-- The log-sigmoids of the kernel's own arguments, by the number of their row. -/
abbrev Lr (j : Fin 128) (n : ℕ) : EReal :=
  rowSig (m ((c : Thread nD τ).loc main_arg0)) (m ((c : Thread nD τ).loc main_arg1)) (m ((c : Thread nD τ).loc main_arg2)) j n

/-- Where the windows stand at grid point `t`: row block `t`, which is block `t % 8` of sequence `t / 8`. -/
theorem idx : ∀ t : Fin cfg0.N, win0_0.index t = ![t.val, 0]
    ∧ win0_1.index t = ![1, 0, 0]
    ∧ win0_2.index t = ![0, 0]
    ∧ win0_3.index t = ![0, 0]
    ∧ win0_4.index t = ![t.val, 0]
    ∧ win0_5.index t = ![t.val / 8, 0, t.val % 8] :=
  (by decide +kernel : ∀ t : Fin grid0.N, win0_0.index t = ![t.val, 0]
    ∧ win0_1.index t = ![1, 0, 0]
    ∧ win0_2.index t = ![0, 0]
    ∧ win0_3.index t = ![0, 0]
    ∧ win0_4.index t = ![t.val, 0]
    ∧ win0_5.index t = ![t.val / 8, 0, t.val % 8])

/-- A block's product and bias. -/
theorem gate_at (t : Fin cfg0.N) (r : Fin 512) (j : Fin 128) :
    k0_pay6 (iblk m c 0 t) (iblk m c 1 t) (iblk m c 2 t) (ix2 r j) = Sg m c (ix2 (Fin.ofNat 16384 (512 * t.val + r.val)) j) := by
  have ht : t.val < 32 := lt_of_lt_of_eq t.isLt N_0
  have hr := r.isLt
  unfold_payloads
  open Cert.GatesRefIdeal.Read in pointwise [Sg, val_main_v0, val_main_v1, val_main_v2, val_main_v3, val_main_v4, val_main_v5, val_main_v6]
  blk_point [iblk, V, idx t]
  show t.val * 512 + r.val = (512 * t.val + r.val) % 16384
  omega

/-- A block's log-sigmoids. -/
theorem sig_at (t : Fin cfg0.N) (r : Fin 512) (j : Fin 128) :
    k0_pay8 (iblk m c 0 t) (iblk m c 1 t) (iblk m c 2 t) (ix2 r j) = Lr m c j (512 * t.val + r.val) := by
  refine Eq.trans ?_ (congrArg logSig (gate_at m c t r j))
  unfold logSig
  rw [← zero_bits, ← Ideal.ofBits_one_f32]
  rfl

/-- A block's softplus. -/
theorem soft_at (t : Fin cfg0.N) (r : Fin 512) (j : Fin 128) :
    k0_pay9 (iblk m c 0 t) (iblk m c 1 t) (iblk m c 2 t) (ix2 r j) = soft (Sg m c (ix2 (Fin.ofNat 16384 (512 * t.val + r.val)) j)) := by
  refine Eq.trans ?_ (congrArg soft (gate_at m c t r j))
  unfold soft
  rw [← zero_bits, ← Ideal.ofBits_one_f32]
  rfl

/-- The kernel's last argument. -/
abbrev Tri : FVec Ideal S512x512 .bf16 := m ((c : Thread nD τ).loc main_arg3)

/-- Its block is the whole matrix at every point. -/
theorem tri_at (t : Fin cfg0.N) (r q : Fin 512) : (iblk m c 3 t : FVec Ideal S512x512 .bf16) (ix2 r q) = Tri m c (ix2 r q) := by
  blk_point [iblk, V, idx t]

/-- What the body adds up at a point: the carried sum, and the log-sigmoids of the block's rows up to the row. -/
theorem added (hT : LowerOnes (Tri m c)) (t : Fin cfg0.N) (x : Vec Ideal S1x128 .f32) (r : Fin 512) (j : Fin 128) :
    k0_pay1 x (k0_pay11 (iblk m c 0 t) (iblk m c 1 t) (iblk m c 2 t) (iblk m c 3 t))
        (k0_pay12 (iblk m c 0 t) (iblk m c 1 t) (iblk m c 2 t) (iblk m c 3 t)) (ix2 r j)
      = x (ix2 0 j) + ∑ q ∈ Finset.range (r.val + 1), Lr m c j (512 * t.val + q) := by
  rw [← sum_lower (Tri m c) hT r (fun q => Lr m c j (512 * t.val + q)) fun n => logSig_ne_top _]
  simp only [← sig_at, ← tri_at m c t]
  pointwise [k0_pay1, k0_pay10, k0_pay11, k0_pay12]

/-- The carried sum and the block's rows so far are the sequence's rows so far. -/
theorem whole (t r : ℕ) (j : Fin 128) :
    (∑ q ∈ Finset.range (512 * (t % 8)), Lr m c j (4096 * (t / 8) + q)) + ∑ q ∈ Finset.range r, Lr m c j (512 * t + q)
      = ∑ q ∈ Finset.range (512 * (t % 8) + r), Lr m c j (4096 * (t / 8) + q) := by
  rw [Finset.sum_range_add]
  exact congrArg _ (Finset.sum_congr rfl fun q _ => congrArg (Lr m c j) (by omega))

/-- The row a point keeps is the last one of its sums. -/
theorem kept (x : Vec Ideal S1x128 .f32) (a b : FVec Ideal S512x128 .f32) (j : Fin 128) :
    k0_pay2 x a b (ix2 0 j) = k0_pay1 x a b (ix2 511 j) := by
  pointwise [k0_pay2]

/-- The first point of a sequence begins with zeros. -/
theorem begun (j : Fin 128) : k0_pay5 (F := Ideal) (ix2 0 j) = 0 := by
  pointwise [k0_pay5]

/-- What is kept from point to point is read back as it was left. -/
theorem kept_back (h : scM0_0.IsWhole) (X : Vec Ideal S1x128 .f32) : View.read (Elt Ideal) (View.whole cc0_scratch0) (h.unread X) = X :=
  h.read_unread X

/-- What a point leaves for the next one: the sum of the log-sigmoids of the sequence so far. -/
theorem carry (hT : LowerOnes (Tri m c)) (j : Fin 128) (n : ℕ) : ∀ h : n < cfg0.N,
    (outsAt0 m c n h).2.2 (ix2 0 j) = ∑ q ∈ Finset.range (512 * (n % 8) + 512), Lr m c j (4096 * (n / 8) + q) := by
  induction n using Nat.strong_induction_on with
  | _ n ih =>
  intro h
  by_cases h0 : n % 8 = 0
  · rw [outsAt0_A m c ⟨n, h⟩ h0]
    frame_out
    rw [kept, added m c hT, begun, ← whole]
    simp [h0]
  · rw [outsAt0_B m c ⟨n, h⟩ h0]
    frame_out
    rw [kept_back, kept, added m c hT, ih (n - 1) (by omega), show 512 * ((n - 1) % 8) + 512 = 512 * (n % 8) by omega,
      show (n - 1) / 8 = n / 8 by omega, ← whole]
    rfl

/-- The sums a point stores: `x` is what it begins with. -/
theorem sums (hT : LowerOnes (Tri m c)) (t : Fin cfg0.N) (x : Vec Ideal S1x128 .f32) (r : Fin 512) (j : Fin 128)
    (hx : x (ix2 0 j) = ∑ q ∈ Finset.range (512 * (t.val % 8)), Lr m c j (4096 * (t.val / 8) + q)) :
    k0_pay1 x (k0_pay11 (iblk m c 0 t) (iblk m c 1 t) (iblk m c 2 t) (iblk m c 3 t))
        (k0_pay12 (iblk m c 0 t) (iblk m c 1 t) (iblk m c 2 t) (iblk m c 3 t)) (ix2 r j)
      = ∑ q ∈ Finset.range (512 * (t.val % 8) + (r.val + 1)), Lr m c j (4096 * (t.val / 8) + q) := by
  rw [added m c hT, hx, whole]

/-- A point at the beginning of a sequence begins with nothing summed. -/
theorem begins (t : Fin cfg0.N) (h0 : t.val % 8 = 0) (j : Fin 128) :
    k0_pay5 (F := Ideal) (ix2 0 j) = ∑ q ∈ Finset.range (512 * (t.val % 8)), Lr m c j (4096 * (t.val / 8) + q) := by
  rw [begun, h0]
  rfl

/-- Another point begins with what the point before it left. -/
theorem goes_on (hT : LowerOnes (Tri m c)) (t : Fin cfg0.N) (h0 : ¬ t.val % 8 = 0) (h : t.val - 1 < cfg0.N) (j : Fin 128) :
    (outsAt0 m c (t.val - 1) h).2.2 (ix2 0 j) = ∑ q ∈ Finset.range (512 * (t.val % 8)), Lr m c j (4096 * (t.val / 8) + q) := by
  rw [carry m c hT, show 512 * ((t.val - 1) % 8) + 512 = 512 * (t.val % 8) by omega, show (t.val - 1) / 8 = t.val / 8 by omega]

/-- The block of the first result: the sums in the first eight lanes, the softplus in the others. -/
theorem rows_block (s : FVec Ideal S512x128 .f32) (x : Vec Ideal S1x128 .f32) (a b : FVec Ideal S512x128 .f32) (r : Fin 512) (j : Fin 128) :
    k0_pay3 s x a b (ix2 r j) = if j.val < 8 then k0_pay1 x a b (ix2 r j) else s (ix2 r j) := by
  have l : ∀ j : Fin 128, IntOp.cmpi CmpIPredicate.slt (BitVec.ofNat 32 j.val) 8#32 = BitVec.ofBool (decide (j.val < 8)) := by decide +kernel
  pointwise [k0_pay3]
  rw [l, Scalar.select_ofBool]
  exact if_congr (by simp) rfl rfl

/-- The block of the second result: the sums of the first eight lanes, lane by lane. -/
theorem lanes_block (s : FVec Ideal S512x128 .f32) (x : Vec Ideal S1x128 .f32) (a b : FVec Ideal S512x128 .f32) (j : Fin 8) (r : Fin 512) :
    k0_pay4 s x a b (ix3 0 j r) = k0_pay1 x a b (ix2 r ⟨j.val, by omega⟩) := by
  refine Eq.trans ?_ ((rows_block s x a b r ⟨j.val, by omega⟩).trans (if_pos j.isLt))
  pointwise [k0_pay4]

/-- The first result that the reference computes, on the kernel's own arguments. -/
abbrev G (c : Dev nD) : (⟨S16384x128, .f32⟩ : BufTy).Contents (Elt Ideal) :=
  Cert.GatesRefIdeal.Read.val_main_v16 (F := Ideal) (m ((c : Thread nD τ).loc main_arg0)) (m ((c : Thread nD τ).loc main_arg1)) (m ((c : Thread nD τ).loc main_arg2))

/-- The second result that the reference computes, on the kernel's own arguments. -/
abbrev H (c : Dev nD) : (⟨S4x8x4096, .f32⟩ : BufTy).Contents (Elt Ideal) :=
  Cert.GatesRefIdeal.Read.val_main_v18 (F := Ideal) (m ((c : Thread nD τ).loc main_arg0)) (m ((c : Thread nD τ).loc main_arg1)) (m ((c : Thread nD τ).loc main_arg2))

/-- A block of the first result is the reference's. -/
theorem rows_agree (hT : LowerOnes (Tri m c)) (t : Fin cfg0.N) (x : Vec Ideal S1x128 .f32) (r : Fin 512) (j : Fin 128)
    (hx : x (ix2 0 j) = ∑ q ∈ Finset.range (512 * (t.val % 8)), Lr m c j (4096 * (t.val / 8) + q)) (i : S16384x128.Idx)
    (hi : i = ix2 (Fin.ofNat 16384 (512 * t.val + r.val)) j) :
    k0_pay3 (k0_pay9 (iblk m c 0 t) (iblk m c 1 t) (iblk m c 2 t)) x (k0_pay11 (iblk m c 0 t) (iblk m c 1 t) (iblk m c 2 t) (iblk m c 3 t))
        (k0_pay12 (iblk m c 0 t) (iblk m c 1 t) (iblk m c 2 t) (iblk m c 3 t)) (ix2 r j) = G m c i := by
  have ht : t.val < 32 := lt_of_lt_of_eq t.isLt N_0
  have hr := r.isLt
  have hn : (Fin.ofNat 16384 (512 * t.val + r.val)).val = 512 * t.val + r.val := Nat.mod_eq_of_lt (by omega)
  rw [hi, rows_block, soft_at, sums m c hT t x r j hx, G, result_rows, hn,
    show (512 * t.val + r.val) % 4096 + 1 = 512 * (t.val % 8) + (r.val + 1) by omega, show (512 * t.val + r.val) / 4096 = t.val / 8 by omega]

/-- A block of the second result is the reference's. -/
theorem lanes_agree (hT : LowerOnes (Tri m c)) (t : Fin cfg0.N) (s : FVec Ideal S512x128 .f32) (x : Vec Ideal S1x128 .f32) (j : Fin 8) (r : Fin 512)
    (hx : ∀ j : Fin 128, x (ix2 0 j) = ∑ q ∈ Finset.range (512 * (t.val % 8)), Lr m c j (4096 * (t.val / 8) + q)) (i : S4x8x4096.Idx)
    (hi : i = ix3 (Fin.ofNat 4 (t.val / 8)) j (Fin.ofNat 4096 (512 * (t.val % 8) + r.val))) :
    k0_pay4 s x (k0_pay11 (iblk m c 0 t) (iblk m c 1 t) (iblk m c 2 t) (iblk m c 3 t))
        (k0_pay12 (iblk m c 0 t) (iblk m c 1 t) (iblk m c 2 t) (iblk m c 3 t)) (ix3 0 j r) = H m c i := by
  have ht : t.val < 32 := lt_of_lt_of_eq t.isLt N_0
  have hr := r.isLt
  have hb : (Fin.ofNat 4 (t.val / 8)).val = t.val / 8 := Nat.mod_eq_of_lt (by omega)
  have hp : (Fin.ofNat 4096 (512 * (t.val % 8) + r.val)).val = 512 * (t.val % 8) + r.val := Nat.mod_eq_of_lt (by omega)
  rw [hi, lanes_block, sums m c hT t x r _ (hx _), H, result_lanes, hb, hp, add_assoc]

/-- Where an element of the first result's block stands in its array. -/
theorem rows_place (t : Fin cfg0.N) (r : Fin 512) (j : Fin 128) :
    ((cfg0.win 4).blk t).view.emb (ix2 r j) = ix2 (Fin.ofNat 16384 (512 * t.val + r.val)) j := by
  have ht : t.val < 32 := lt_of_lt_of_eq t.isLt N_0
  have hr := r.isLt
  obtain ⟨-, -, -, -, e, -⟩ := idx t
  funext a
  refine Fin.ext ?_
  match a with
  | ⟨0, _⟩ =>
    show win0_4.index t 0 * 512 + 1 * r.val = (512 * t.val + r.val) % 16384
    rw [e]
    show t.val * 512 + 1 * r.val = (512 * t.val + r.val) % 16384
    omega
  | ⟨1, _⟩ =>
    show win0_4.index t 1 * 128 + 1 * j.val = j.val
    rw [e]
    show 0 * 128 + 1 * j.val = j.val
    omega

/-- Where an element of the second result's block stands in its array. -/
theorem lanes_place (t : Fin cfg0.N) (j : Fin 8) (r : Fin 512) :
    ((cfg0.win 5).blk t).view.emb (ix3 0 j r) = ix3 (Fin.ofNat 4 (t.val / 8)) j (Fin.ofNat 4096 (512 * (t.val % 8) + r.val)) := by
  have ht : t.val < 32 := lt_of_lt_of_eq t.isLt N_0
  have hr := r.isLt
  obtain ⟨-, -, -, -, -, e⟩ := idx t
  funext a
  refine Fin.ext ?_
  match a with
  | ⟨0, _⟩ =>
    show win0_5.index t 0 * 1 + 1 * 0 = t.val / 8 % 4
    rw [e]
    show t.val / 8 * 1 + 1 * 0 = t.val / 8 % 4
    omega
  | ⟨1, _⟩ =>
    show win0_5.index t 1 * 8 + 1 * j.val = j.val
    rw [e]
    show 0 * 8 + 1 * j.val = j.val
    omega
  | ⟨2, _⟩ =>
    show win0_5.index t 2 * 512 + 1 * r.val = (512 * (t.val % 8) + r.val) % 4096
    rw [e]
    show t.val % 8 * 512 + 1 * r.val = (512 * (t.val % 8) + r.val) % 4096
    omega

/-- After the run the first result array is the reference's. -/
theorem final (hT : LowerOnes (Tri m c)) : (dats m 0 c).arrAt 4 cfg0.N = G m c := by
  refine (dats m 0 c).arrAt_eq_of_covers 4 _ (by decide +kernel) fun t hf y => ?_
  blk_simp
  rw [after0_4]
  idx_vars y
  by_cases h0 : t.val % 8 = 0
  · rw [outsAt0_A m c t h0]
    frame_out
    exact rows_agree m c hT t _ y0 y1 (begins m c t h0 y1) _ (rows_place t y0 y1)
  · rw [outsAt0_B m c t h0]
    frame_out
    rw [kept_back]
    exact rows_agree m c hT t _ y0 y1 (goes_on m c hT t h0 _ y1) _ (rows_place t y0 y1)

/-- After the run the second result array is the reference's. -/
theorem final_lanes (hT : LowerOnes (Tri m c)) : (dats m 0 c).arrAt 5 cfg0.N = H m c := by
  refine (dats m 0 c).arrAt_eq_of_covers 5 _ (by decide +kernel) fun t hf y => ?_
  blk_simp
  rw [after0_5]
  idx_vars y
  obtain rfl : y0 = 0 := Subsingleton.elim _ _
  by_cases h0 : t.val % 8 = 0
  · rw [outsAt0_A m c t h0]
    frame_out
    exact lanes_agree m c hT t _ _ y1 y2 (begins m c t h0) _ (lanes_place t y1 y2)
  · rw [outsAt0_B m c t h0]
    frame_out
    rw [kept_back]
    exact lanes_agree m c hT t _ _ y1 y2 (goes_on m c hT t h0 _) _ (lanes_place t y1 y2)

end Cert.GatesIdeal.Running

end
-- ==== Proof.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.InB.Frame
public import proofs.«01_k».proof.Proof.Gen.InBIdeal.Value
public import proofs.«01_k».proof.Proof.Gen.InBRefIdeal.Run
public import proofs.«01_k».proof.Proof.Gen.InBRefIdeal.Read
public import proofs.«01_k».proof.Proof.Gen.InF.Frame
public import proofs.«01_k».proof.Proof.Gen.InFIdeal.Value
public import proofs.«01_k».proof.Proof.Gen.InFRefIdeal.Run
public import proofs.«01_k».proof.Proof.Gen.InFRefIdeal.Read
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Last.Frame
public import proofs.«01_k».proof.Proof.Gen.LastIdeal.Value
public import proofs.«01_k».proof.Proof.Gen.LastRefIdeal.Run
public import proofs.«01_k».proof.Proof.Gen.LastRefIdeal.Read
public import proofs.«01_k».proof.Proof.Gen.Fox.Frame
public import proofs.«01_k».proof.Proof.Gen.FoxIdeal.Value
public import proofs.«01_k».proof.Proof.Gen.FoxRefIdeal.Run
public import proofs.«01_k».proof.Proof.Gen.FoxRefIdeal.Read
public import proofs.«01_k».proof.Proof.Gen.Pre_fox_finite
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.Pre_lower_ones
public import proofs.«01_k».proof.Proof.MergeValue
public import proofs.«01_k».proof.Proof.UpValue
public import proofs.«01_k».proof.Proof.DownValue
public import proofs.«01_k».proof.Proof.OutValue
public import proofs.«01_k».proof.Proof.InBValue
public import proofs.«01_k».proof.Proof.InFValue
public import proofs.«01_k».proof.Proof.NormValue
public import proofs.«01_k».proof.Proof.LastValue
public import proofs.«01_k».proof.Proof.FoxAgree
public import proofs.«01_k».proof.Proof.GatesValue
public import Idealize.ShloMosaic.Adequacy
public import Idealize.ShloMosaic.Init

@[expose] public section

noncomputable section

namespace Cert.Proof

open Idealize.ShloMosaic Idealize.ShloMosaic.TcCoe Idealize.SL.Sem

/-- At exact arithmetic the gated merge of the three mixers and its reference end with equal results. -/
theorem algebraic_Merge : Cert.algebraic_MergeIdeal_MergeRefIdeal (hMergeIdeal := Cert.MergeIdeal.Gen.facts) (hMergeRefIdeal := Cert.MergeRefIdeal.Gen.facts) := by
  intro m ρ m' ρ' _ hagree
  refine ⟨fun c => Cert.MergeIdeal.Gated.G m c, fun c => Cert.MergeIdeal.Gated.H m c, ?_, ?_⟩
  · exact (θ_run Cert.MergeIdeal.defs _ _).mono (fun r h c => ⟨(h c).1.trans (Cert.MergeIdeal.Gated.final m c),
      (h c).2.1.trans (Cert.MergeIdeal.Gated.final_side m c), (h c).2.2⟩) (Cert.MergeIdeal.Value.run_blocks m ρ)
  · refine (θ_run Cert.MergeRefIdeal.defs _ _).mono (fun r h c => ⟨(h c).1.trans ?_, (h c).2.1.trans ?_, (h c).2.2⟩)
      (Cert.MergeRefIdeal.Value.run m' ρ')
    · obtain ⟨a0, a1, a2, a3, a4, a5, a6, a7⟩ := hagree c
      rw [Cert.MergeRefIdeal.Read.val_main_v67_eq]
      simp only [a0, a1, a2, a3, a4, a5, a6, a7]
    · obtain ⟨a0, a1, a2, a3, a4, a5, a6, a7⟩ := hagree c
      rw [Cert.MergeRefIdeal.Read.val_main_v70_eq]
      simp only [a0, a1, a2, a3, a4, a5, a6, a7]

/-- At exact arithmetic the feed-forward network's first product and its reference end with equal results. -/
theorem algebraic_Up : Cert.algebraic_UpIdeal_UpRefIdeal (hUpIdeal := Cert.UpIdeal.Gen.facts) (hUpRefIdeal := Cert.UpRefIdeal.Gen.facts) := by
  intro m ρ m' ρ' _ hagree
  refine ⟨fun c => Cert.UpIdeal.Relu2.G m c, fun c => Cert.UpIdeal.Relu2.H m c, ?_, ?_⟩
  · exact (θ_run Cert.UpIdeal.defs _ _).mono (fun r h c => ⟨(h c).1.trans (Cert.UpIdeal.Relu2.final m c),
      (h c).2.1.trans (Cert.UpIdeal.Relu2.final_side m c), (h c).2.2⟩) (Cert.UpIdeal.Value.run_blocks m ρ)
  · refine (θ_run Cert.UpRefIdeal.defs _ _).mono (fun r h c => ⟨(h c).1.trans ?_, (h c).2.1.trans ?_, (h c).2.2⟩)
      (Cert.UpRefIdeal.Value.run m' ρ')
    · obtain ⟨a0, a1, a2⟩ := hagree c
      rw [Cert.UpRefIdeal.Read.val_main_v5_eq]
      simp only [a0, a1, a2]
    · obtain ⟨a0, a1, a2⟩ := hagree c
      rw [Cert.UpRefIdeal.Read.val_main_v8_eq]
      simp only [a0, a1, a2]

/-- At exact arithmetic the feed-forward network's second product with its residual and its reference end with equal results. -/
theorem algebraic_Down : Cert.algebraic_DownIdeal_DownRefIdeal (hDownIdeal := Cert.DownIdeal.Gen.facts) (hDownRefIdeal := Cert.DownRefIdeal.Gen.facts) := by
  intro m ρ m' ρ' _ hagree
  refine ⟨fun c => Cert.DownIdeal.Resid.G m c, ?_, ?_⟩
  · exact (θ_run Cert.DownIdeal.defs _ _).mono (fun r h c => ⟨(h c).1.trans (Cert.DownIdeal.Resid.final m c), (h c).2⟩)
      (Cert.DownIdeal.Value.run_blocks m ρ)
  · refine (θ_run Cert.DownRefIdeal.defs _ _).mono (fun r h c => ⟨(h c).1.trans ?_, (h c).2⟩) (Cert.DownRefIdeal.Value.run m' ρ')
    obtain ⟨a0, a1, a2, a3, a4, a5⟩ := hagree c
    rw [Cert.DownRefIdeal.Read.val_main_v17_eq]
    simp only [a0, a1, a2, a3, a4, a5]

/-- At exact arithmetic the output projection with its residual and its reference end with equal results. -/
theorem algebraic_Out : Cert.algebraic_OutIdeal_OutRefIdeal (hOutIdeal := Cert.OutIdeal.Gen.facts) (hOutRefIdeal := Cert.OutRefIdeal.Gen.facts) := by
  intro m ρ m' ρ' _ hagree
  refine ⟨fun c => Cert.OutIdeal.Resid.G m c, ?_, ?_⟩
  · exact (θ_run Cert.OutIdeal.defs _ _).mono (fun r h c => ⟨(h c).1.trans (Cert.OutIdeal.Resid.final m c), (h c).2⟩)
      (Cert.OutIdeal.Value.run_blocks m ρ)
  · refine (θ_run Cert.OutRefIdeal.defs _ _).mono (fun r h c => ⟨(h c).1.trans ?_, (h c).2⟩) (Cert.OutRefIdeal.Value.run m' ρ')
    obtain ⟨a0, a1, a2, a3, a4, a5⟩ := hagree c
    rw [Cert.OutRefIdeal.Read.val_main_v17_eq]
    simp only [a0, a1, a2, a3, a4, a5]

/-- At exact arithmetic the input projection's bf16 columns and its reference end with equal results. -/
theorem algebraic_InB : Cert.algebraic_InBIdeal_InBRefIdeal (hInBIdeal := Cert.InBIdeal.Gen.facts) (hInBRefIdeal := Cert.InBRefIdeal.Gen.facts) := by
  intro m ρ m' ρ' _ hagree
  refine ⟨fun c => Cert.InBIdeal.Proj.G m c, ?_, ?_⟩
  · exact (θ_run Cert.InBIdeal.defs _ _).mono (fun r h c => ⟨(h c).1.trans (Cert.InBIdeal.Proj.final m c), (h c).2⟩)
      (Cert.InBIdeal.Value.run_blocks m ρ)
  · refine (θ_run Cert.InBRefIdeal.defs _ _).mono (fun r h c => ⟨(h c).1.trans ?_, (h c).2⟩) (Cert.InBRefIdeal.Value.run m' ρ')
    obtain ⟨a0, a1⟩ := hagree c
    rw [Cert.InBRefIdeal.Read.val_main_v5_eq]
    simp only [a0, a1]

/-- At exact arithmetic the input projection's f32 columns and its reference end with equal results. -/
theorem algebraic_InF : Cert.algebraic_InFIdeal_InFRefIdeal (hInFIdeal := Cert.InFIdeal.Gen.facts) (hInFRefIdeal := Cert.InFRefIdeal.Gen.facts) := by
  intro m ρ m' ρ' _ hagree
  refine ⟨fun c => Cert.InFIdeal.Proj.G m c, ?_, ?_⟩
  · exact (θ_run Cert.InFIdeal.defs _ _).mono (fun r h c => ⟨(h c).1.trans (Cert.InFIdeal.Proj.final m c), (h c).2⟩)
      (Cert.InFIdeal.Value.run_blocks m ρ)
  · refine (θ_run Cert.InFRefIdeal.defs _ _).mono (fun r h c => ⟨(h c).1.trans ?_, (h c).2⟩) (Cert.InFRefIdeal.Value.run m' ρ')
    obtain ⟨a0, a1⟩ := hagree c
    rw [Cert.InFRefIdeal.Read.val_main_v4_eq]
    simp only [a0, a1]

/-- At exact arithmetic the layer norm between two halves of the trunk and its reference end with equal results. -/
theorem algebraic_Norm : Cert.algebraic_NormIdeal_NormRefIdeal (hNormIdeal := Cert.NormIdeal.Gen.facts) (hNormRefIdeal := Cert.NormRefIdeal.Gen.facts) := by
  intro m ρ m' ρ' _ hagree
  refine ⟨fun c => Cert.NormIdeal.LayerNorm.G m c, fun c => Cert.NormIdeal.LayerNorm.H m c, ?_, ?_⟩
  · exact (θ_run Cert.NormIdeal.defs _ _).mono (fun r h c => ⟨(h c).1.trans (Cert.NormIdeal.LayerNorm.final m c),
      (h c).2.1.trans (Cert.NormIdeal.LayerNorm.final_side m c), (h c).2.2⟩) (Cert.NormIdeal.Value.run_blocks m ρ)
  · refine (θ_run Cert.NormRefIdeal.defs _ _).mono (fun r h c => ⟨(h c).1.trans ?_, (h c).2.1.trans ?_, (h c).2.2⟩)
      (Cert.NormRefIdeal.Value.run m' ρ')
    · obtain ⟨a0, a1, a2⟩ := hagree c
      rw [Cert.NormRefIdeal.Read.val_main_v26_eq]
      simp only [a0, a1, a2]
    · obtain ⟨a0, a1, a2⟩ := hagree c
      rw [Cert.NormRefIdeal.Read.val_main_v25_eq]
      simp only [a0, a1, a2]

/-- At exact arithmetic the trunk's last layer norm and its reference end with equal results. -/
theorem algebraic_Last : Cert.algebraic_LastIdeal_LastRefIdeal (hLastIdeal := Cert.LastIdeal.Gen.facts) (hLastRefIdeal := Cert.LastRefIdeal.Gen.facts) := by
  intro m ρ m' ρ' _ hagree
  refine ⟨fun c => Cert.LastIdeal.LayerNorm.G m c, ?_, ?_⟩
  · exact (θ_run Cert.LastIdeal.defs _ _).mono (fun r h c => ⟨(h c).1.trans (Cert.LastIdeal.LayerNorm.final m c), (h c).2⟩)
      (Cert.LastIdeal.Value.run_blocks m ρ)
  · refine (θ_run Cert.LastRefIdeal.defs _ _).mono (fun r h c => ⟨(h c).1.trans ?_, (h c).2⟩) (Cert.LastRefIdeal.Value.run m' ρ')
    obtain ⟨a0, a1, a2⟩ := hagree c
    rw [Cert.LastRefIdeal.Read.val_main_v23_eq]
    simp only [a0, a1, a2]

/-- The reference of the gated merge of the three mixers runs to the end and leaves its arguments as they were; it has no semaphores. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2.2, sem_eq_zero_of_no_sems (by decide) r.2⟩)
    (Cert.MergeRefIdeal.Value.run m ρ)

/-- The reference of the feed-forward network's first product runs to the end and leaves its arguments as they were; it has no semaphores. -/
theorem frame_UpRef : Cert.quiescent_UpRefIdeal (hUpRefIdeal := Cert.UpRefIdeal.Gen.facts) := fun m ρ _ =>
  (θ_run Cert.UpRefIdeal.defs _ _).mono (fun r h => ⟨fun c => (h c).2.2, sem_eq_zero_of_no_sems (by decide) r.2⟩)
    (Cert.UpRefIdeal.Value.run m ρ)

/-- The reference of the feed-forward network's second product with its residual runs to the end and leaves its arguments as they were; it has no semaphores. -/
theorem frame_DownRef : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run m ρ)

/-- The reference of the output projection with its residual runs to the end and leaves its arguments as they were; it has no semaphores. -/
theorem frame_OutRef : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run m ρ)

/-- The reference of the input projection's bf16 columns runs to the end and leaves its arguments as they were; it has no semaphores. -/
theorem frame_InBRef : Cert.quiescent_InBRefIdeal (hInBRefIdeal := Cert.InBRefIdeal.Gen.facts) := fun m ρ _ =>
  (θ_run Cert.InBRefIdeal.defs _ _).mono (fun r h => ⟨fun c => (h c).2, sem_eq_zero_of_no_sems (by decide) r.2⟩)
    (Cert.InBRefIdeal.Value.run m ρ)

/-- The reference of the input projection's f32 columns runs to the end and leaves its arguments as they were; it has no semaphores. -/
theorem frame_InFRef : Cert.quiescent_InFRefIdeal (hInFRefIdeal := Cert.InFRefIdeal.Gen.facts) := fun m ρ _ =>
  (θ_run Cert.InFRefIdeal.defs _ _).mono (fun r h => ⟨fun c => (h c).2, sem_eq_zero_of_no_sems (by decide) r.2⟩)
    (Cert.InFRefIdeal.Value.run m ρ)

/-- The reference of the layer norm between two halves of the trunk runs to the end and leaves its arguments as they were; it has no semaphores. -/
theorem frame_NormRef : Cert.quiescent_NormRefIdeal (hNormRefIdeal := Cert.NormRefIdeal.Gen.facts) := fun m ρ _ =>
  (θ_run Cert.NormRefIdeal.defs _ _).mono (fun r h => ⟨fun c => (h c).2.2, sem_eq_zero_of_no_sems (by decide) r.2⟩)
    (Cert.NormRefIdeal.Value.run m ρ)

/-- The reference of the trunk's last layer norm runs to the end and leaves its arguments as they were; it has no semaphores. -/
theorem frame_LastRef : Cert.quiescent_LastRefIdeal (hLastRefIdeal := Cert.LastRefIdeal.Gen.facts) := fun m ρ _ =>
  (θ_run Cert.LastRefIdeal.defs _ _).mono (fun r h => ⟨fun c => (h c).2, sem_eq_zero_of_no_sems (by decide) r.2⟩)
    (Cert.LastRefIdeal.Value.run m ρ)

/-- At exact arithmetic the attention with forget gates and its reference end with equal results, when every argument entry is
    a real number. -/
theorem algebraic_Fox : Cert.algebraic_FoxIdeal_FoxRefIdeal_pre_fox_finite (hFoxIdeal := Cert.FoxIdeal.Gen.facts)
    (hFoxRefIdeal := Cert.FoxRefIdeal.Gen.facts) (hPre_fox_finite := Cert.Pre_fox_finite.Gen.facts) := by
  intro m ρ m' ρ' hpre hagree
  refine ⟨fun c => Cert.FoxIdeal.Strip.G m c, ?_, ?_⟩
  · exact (θ_run Cert.FoxIdeal.defs _ _).mono (fun r h c => ⟨(h c).1.trans (Cert.FoxIdeal.Strip.agree m c
      (Cert.FoxIdeal.Strip.real_of_finite _ _ (hpre c))), (h c).2⟩) (Cert.FoxIdeal.Value.run_blocks m ρ)
  · refine (θ_run Cert.FoxRefIdeal.defs _ _).mono (fun r h c => ⟨(h c).1.trans ?_, (h c).2⟩) (Cert.FoxRefIdeal.Value.run m' ρ')
    obtain ⟨a0, a1⟩ := hagree c
    rw [Cert.FoxRefIdeal.Read.val_main_v39_eq]
    simp only [a0, a1]

/-- The attention's two named constants are the values their float words stand for in `κ`. -/
theorem preserves_Fox : Cert.preserves_Fox_FoxIdeal :=
  ⟨IdealRules.named_const.statement Cert.FoxIdeal.κ "log2e" .f32 0x3FB8AA3B#32 _ rfl,
    IdealRules.named_const.statement Cert.FoxIdeal.κ "scale_log2e" .f32 0x3E0293EE#32 _ rfl⟩

/-- The reference of the attention with forget gates runs to the end and leaves its arguments as they were; it has no semaphores. -/
theorem frame_FoxRef : Cert.quiescent_FoxRefIdeal (hFoxRefIdeal := Cert.FoxRefIdeal.Gen.facts) := fun m ρ _ =>
  (θ_run Cert.FoxRefIdeal.defs _ _).mono (fun r h => ⟨fun c => (h c).2, sem_eq_zero_of_no_sems (by decide) r.2⟩)
    (Cert.FoxRefIdeal.Value.run m ρ)

/-- At exact arithmetic the call that makes the gates and their running sums ends with the reference's two results, when its
    last argument is the matrix with ones on and below its diagonal and zeros above it. -/
theorem algebraic_Gates : Cert.algebraic_GatesIdeal_GatesRefIdeal_pre_lower_ones (hGatesIdeal := Cert.GatesIdeal.Gen.facts)
    (hGatesRefIdeal := Cert.GatesRefIdeal.Gen.facts) (hPre_lower_ones := Cert.Pre_lower_ones.Gen.facts) := by
  intro m ρ m' ρ' hpre hagree
  refine ⟨fun c => Cert.GatesIdeal.Running.G m c, fun c => Cert.GatesIdeal.Running.H m c, ?_, ?_⟩
  · exact (θ_run Cert.GatesIdeal.defs _ _).mono (fun r h c =>
      have hT := Cert.GatesIdeal.Running.lower_of_pre _ _ _ _ (hpre c)
      ⟨(h c).1.trans (Cert.GatesIdeal.Running.final m c hT), (h c).2.1.trans (Cert.GatesIdeal.Running.final_lanes m c hT), (h c).2.2⟩)
      (Cert.GatesIdeal.Value.run_blocks m ρ)
  · refine (θ_run Cert.GatesRefIdeal.defs _ _).mono (fun r h c => ⟨(h c).1.trans ?_, (h c).2.1.trans ?_, (h c).2.2⟩)
      (Cert.GatesRefIdeal.Value.run m' ρ')
    · obtain ⟨a0, a1, a2, a3⟩ := hagree c
      rw [Cert.GatesRefIdeal.Read.val_main_v16_eq]
      simp only [a0, a1, a2]
    · obtain ⟨a0, a1, a2, a3⟩ := hagree c
      rw [Cert.GatesRefIdeal.Read.val_main_v18_eq]
      simp only [a0, a1, a2]

/-- The reference of the gates and their running sums runs to the end and leaves its arguments as they were; it has no semaphores. -/
theorem frame_GatesRef : Cert.quiescent_GatesRefIdeal (hGatesRefIdeal := Cert.GatesRefIdeal.Gen.facts) := fun m ρ _ =>
  (θ_run Cert.GatesRefIdeal.defs _ _).mono (fun r h => ⟨fun c => (h c).2.2, sem_eq_zero_of_no_sems (by decide) r.2⟩)
    (Cert.GatesRefIdeal.Value.run m ρ)

/-- Everything that is claimed of the layer's calls. -/
theorem claim : Cert.Claim := ⟨Cert.Merge.Gen.facts, Cert.MergeIdeal.Gen.facts, Cert.MergeRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.InB.Gen.facts, Cert.InBIdeal.Gen.facts, Cert.InBRefIdeal.Gen.facts,
  Cert.InF.Gen.facts, Cert.InFIdeal.Gen.facts, Cert.InFRefIdeal.Gen.facts,
  Cert.Norm.Gen.facts, Cert.NormIdeal.Gen.facts, Cert.NormRefIdeal.Gen.facts,
  Cert.Last.Gen.facts, Cert.LastIdeal.Gen.facts, Cert.LastRefIdeal.Gen.facts,
  Cert.Fox.Gen.facts, Cert.FoxIdeal.Gen.facts, Cert.FoxRefIdeal.Gen.facts,
  Cert.Gates.Gen.facts, Cert.GatesIdeal.Gen.facts, Cert.GatesRefIdeal.Gen.facts,
  Cert.Pre_fox_finite.Gen.facts, Cert.Pre_lower_ones.Gen.facts,
  fun m ρ _ => Cert.Merge.Gen.frame m ρ, fun m ρ _ => Cert.MergeIdeal.Gen.frame m ρ, frame_MergeRef,
  fun m ρ _ => Cert.Up.Gen.frame m ρ, fun m ρ _ => Cert.UpIdeal.Gen.frame m ρ, frame_UpRef,
  fun m ρ _ => Cert.Down.Gen.frame m ρ, fun m ρ _ => Cert.DownIdeal.Gen.frame m ρ, frame_DownRef,
  fun m ρ _ => Cert.Out.Gen.frame m ρ, fun m ρ _ => Cert.OutIdeal.Gen.frame m ρ, frame_OutRef,
  fun m ρ _ => Cert.InB.Gen.frame m ρ, fun m ρ _ => Cert.InBIdeal.Gen.frame m ρ, frame_InBRef,
  fun m ρ _ => Cert.InF.Gen.frame m ρ, fun m ρ _ => Cert.InFIdeal.Gen.frame m ρ, frame_InFRef,
  fun m ρ _ => Cert.Norm.Gen.frame m ρ, fun m ρ _ => Cert.NormIdeal.Gen.frame m ρ, frame_NormRef,
  fun m ρ _ => Cert.Last.Gen.frame m ρ, fun m ρ _ => Cert.LastIdeal.Gen.frame m ρ, frame_LastRef,
  fun m ρ _ => Cert.Fox.Gen.frame m ρ, fun m ρ _ => Cert.FoxIdeal.Gen.frame m ρ, fun m ρ _ => Cert.FoxIdeal.Gen.frame m ρ,
  frame_FoxRef, fun m ρ _ => frame_FoxRef m ρ ⟨⟩,
  fun m ρ _ => Cert.Gates.Gen.frame m ρ, fun m ρ _ => Cert.GatesIdeal.Gen.frame m ρ, fun m ρ _ => Cert.GatesIdeal.Gen.frame m ρ,
  frame_GatesRef, fun m ρ _ => frame_GatesRef m ρ ⟨⟩,
  trivial, algebraic_Merge,
  trivial, algebraic_Up,
  trivial, algebraic_Down,
  trivial, algebraic_Out,
  trivial, algebraic_InB,
  trivial, algebraic_InF,
  trivial, algebraic_Norm,
  trivial, algebraic_Last,
  preserves_Fox, algebraic_Fox,
  trivial, algebraic_Gates⟩

end Cert.Proof

end
